-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![128, 16, 16, 64]⟩ ⟨4, ![256, 16, 16, 64]⟩ (Layout.meshBlock [2, 2, 4] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![128, 16, 16, 64]⟩ ⟨4, ![256, 16, 16, 64]⟩ (Layout.meshBlock [2, 2, 4] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩

class Facts : Prop where
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x1x16x64 : S_.BroadcastsInDim S16x1x16x64 (![] : Fin 0 → Fin S16x1x16x64.rank)
  bcast_S_S128x16x16x64 : S_.BroadcastsInDim S128x16x16x64 (![] : Fin 0 → Fin S128x16x16x64.rank)
  bcast_S_S16 : S_.BroadcastsInDim S16 (![] : Fin 0 → Fin S16.rank)
  bcast_S_S16x128 : S_.BroadcastsInDim S16x128 (![] : Fin 0 → Fin S16x128.rank)

variable [Facts]

def fn_part1 {F : FTy → Type} [FloatOps F] (main_v8 : IVec S16x1x16x64 1) (main_v11 : IVec S128x16x16x64 1) (main_v13 : IVec S16 1) (main_v14 : IVec S16x128 1) (main_v16 : IVec S16x128 1) (main_v18 : IVec S16x128 1) : IVec S16x1x16x64 1 × IVec S128x16x16x64 1 × IVec S16 1 × IVec S16x128 1 :=
  let main_v19 : IVec S16x128 1 := andi main_v16 main_v18
  let main_v20 : IVec S16x128 1 := ori main_v14 main_v19
  (main_v8, main_v11, main_v13, main_v20)

def fn {F : FTy → Type} [FloatOps F] (main_arg0 : FVec F S16x1x16x64 .f32) (main_arg1 : FVec F S128x16x16x64 .f32) (main_arg2 : FVec F S128x16x16x64 .f32) (main_arg3 : IVec S16x128 32) (main_arg4 : IVec S16 32) : IVec S16x1x16x64 1 × IVec S128x16x16x64 1 × IVec S16 1 × IVec S16x128 1 :=
  let main_v0 : IVec S128 32 := iotaInDim S128 32 0
  let main_v1 : IVec S1x128 32 := broadcastInDim S1x128 ![1] bcast_S128_S1x128_1 main_v0
  let main_v2 : IVec S16x1 32 := broadcastInDim S16x1 ![0] bcast_S16_S16x1_0 main_arg4
  let main_v3 : IVec S16x128 32 := broadcastInDim S16x128 ![0, 1] bcast_S1x128_S16x128_0_1 main_v1
  let main_v4 : IVec S16x128 32 := broadcastInDim S16x128 ![0, 1] bcast_S16x1_S16x128_0_1 main_v2
  let main_v5 : IVec S16x128 1 := cmpi .slt main_v3 main_v4
  let main_v6 : FVec F S16x1x16x64 .f32 := Host.absf main_arg0
  let main_cst : FVec F S_ .f32 := constant S_ .f32 0x7F800000#32
  let main_v7 : FVec F S16x1x16x64 .f32 := broadcastInDim S16x1x16x64 ![] bcast_S_S16x1x16x64 main_cst
  let main_v8 : IVec S16x1x16x64 1 := cmpf .olt main_v6 main_v7
  let main_v9 : FVec F S128x16x16x64 .f32 := Host.absf main_arg1
  let main_cst_0 : FVec F S_ .f32 := constant S_ .f32 0x7F800000#32
  let main_v10 : FVec F S128x16x16x64 .f32 := broadcastInDim S128x16x16x64 ![] bcast_S_S128x16x16x64 main_cst_0
  let main_v11 : IVec S128x16x16x64 1 := cmpf .olt main_v9 main_v10
  let main_c : IVec S_ 32 := constantI S_ 32 1#32
  let main_v12 : IVec S16 32 := broadcastInDim S16 ![] bcast_S_S16 main_c
  let main_v13 : IVec S16 1 := cmpi .sge main_arg4 main_v12
  let main_v14 : IVec S16x128 1 := noti main_v5
  let main_c_1 : IVec S_ 32 := constantI S_ 32 0#32
  let main_v15 : IVec S16x128 32 := broadcastInDim S16x128 ![] bcast_S_S16x128 main_c_1
  let main_v16 : IVec S16x128 1 := cmpi .sge main_arg3 main_v15
  let main_c_2 : IVec S_ 32 := constantI S_ 32 256#32
  let main_v17 : IVec S16x128 32 := broadcastInDim S16x128 ![] bcast_S_S16x128 main_c_2
  let main_v18 : IVec S16x128 1 := cmpi .slt main_arg3 main_v17
  fn_part1 (F := F) main_v8 main_v11 main_v13 main_v14 main_v16 main_v18
-- ==== Pre_served_ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩

class Facts : Prop where
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x1x16x64 : S_.BroadcastsInDim S16x1x16x64 (![] : Fin 0 → Fin S16x1x16x64.rank)
  bcast_S_S256x16x16x64 : S_.BroadcastsInDim S256x16x16x64 (![] : Fin 0 → Fin S256x16x16x64.rank)
  bcast_S_S16 : S_.BroadcastsInDim S16 (![] : Fin 0 → Fin S16.rank)
  bcast_S_S16x128 : S_.BroadcastsInDim S16x128 (![] : Fin 0 → Fin S16x128.rank)

variable [Facts]

def fn_part1 {F : FTy → Type} [FloatOps F] (main_v8 : IVec S16x1x16x64 1) (main_v11 : IVec S256x16x16x64 1) (main_v13 : IVec S16 1) (main_v14 : IVec S16x128 1) (main_v16 : IVec S16x128 1) (main_v18 : IVec S16x128 1) : IVec S16x1x16x64 1 × IVec S256x16x16x64 1 × IVec S16 1 × IVec S16x128 1 :=
  let main_v19 : IVec S16x128 1 := andi main_v16 main_v18
  let main_v20 : IVec S16x128 1 := ori main_v14 main_v19
  (main_v8, main_v11, main_v13, main_v20)

def fn {F : FTy → Type} [FloatOps F] (main_arg0 : FVec F S16x1x16x64 .f32) (main_arg1 : FVec F S256x16x16x64 .f32) (main_arg2 : FVec F S256x16x16x64 .f32) (main_arg3 : IVec S16x128 32) (main_arg4 : IVec S16 32) : IVec S16x1x16x64 1 × IVec S256x16x16x64 1 × IVec S16 1 × IVec S16x128 1 :=
  let main_v0 : IVec S128 32 := iotaInDim S128 32 0
  let main_v1 : IVec S1x128 32 := broadcastInDim S1x128 ![1] bcast_S128_S1x128_1 main_v0
  let main_v2 : IVec S16x1 32 := broadcastInDim S16x1 ![0] bcast_S16_S16x1_0 main_arg4
  let main_v3 : IVec S16x128 32 := broadcastInDim S16x128 ![0, 1] bcast_S1x128_S16x128_0_1 main_v1
  let main_v4 : IVec S16x128 32 := broadcastInDim S16x128 ![0, 1] bcast_S16x1_S16x128_0_1 main_v2
  let main_v5 : IVec S16x128 1 := cmpi .slt main_v3 main_v4
  let main_v6 : FVec F S16x1x16x64 .f32 := Host.absf main_arg0
  let main_cst : FVec F S_ .f32 := constant S_ .f32 0x7F800000#32
  let main_v7 : FVec F S16x1x16x64 .f32 := broadcastInDim S16x1x16x64 ![] bcast_S_S16x1x16x64 main_cst
  let main_v8 : IVec S16x1x16x64 1 := cmpf .olt main_v6 main_v7
  let main_v9 : FVec F S256x16x16x64 .f32 := Host.absf main_arg1
  let main_cst_0 : FVec F S_ .f32 := constant S_ .f32 0x7F800000#32
  let main_v10 : FVec F S256x16x16x64 .f32 := broadcastInDim S256x16x16x64 ![] bcast_S_S256x16x16x64 main_cst_0
  let main_v11 : IVec S256x16x16x64 1 := cmpf .olt main_v9 main_v10
  let main_c : IVec S_ 32 := constantI S_ 32 1#32
  let main_v12 : IVec S16 32 := broadcastInDim S16 ![] bcast_S_S16 main_c
  let main_v13 : IVec S16 1 := cmpi .sge main_arg4 main_v12
  let main_v14 : IVec S16x128 1 := noti main_v5
  let main_c_1 : IVec S_ 32 := constantI S_ 32 0#32
  let main_v15 : IVec S16x128 32 := broadcastInDim S16x128 ![] bcast_S_S16x128 main_c_1
  let main_v16 : IVec S16x128 1 := cmpi .sge main_arg3 main_v15
  let main_c_2 : IVec S_ 32 := constantI S_ 32 256#32
  let main_v17 : IVec S16x128 32 := broadcastInDim S16x128 ![] bcast_S_S16x128 main_c_2
  let main_v18 : IVec S16x128 1 := cmpi .slt main_arg3 main_v17
  fn_part1 (F := F) main_v8 main_v11 main_v13 main_v14 main_v16 main_v18
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩
abbrev S16x128x1 : Shape := ⟨3, ![16, 128, 1]⟩
abbrev S16x16x64x128 : Shape := ⟨4, ![16, 16, 64, 128]⟩
abbrev S16x16x64 : Shape := ⟨3, ![16, 16, 64]⟩
abbrev S16x16 : Shape := ⟨2, ![16, 16]⟩
abbrev S2 : Shape := ⟨1, ![2]⟩
abbrev S1 : Shape := ⟨1, ![1]⟩
abbrev S1x16x64x128 : Shape := ⟨4, ![1, 16, 64, 128]⟩
abbrev S16x64x128 : Shape := ⟨3, ![16, 64, 128]⟩
abbrev S16x128x128 : Shape := ⟨3, ![16, 128, 128]⟩
abbrev S1x16x128 : Shape := ⟨3, ![1, 16, 128]⟩
abbrev S16x16x1 : Shape := ⟨3, ![16, 16, 1]⟩
abbrev S16x16x128 : Shape := ⟨3, ![16, 16, 128]⟩
abbrev S1x16x64 : Shape := ⟨3, ![1, 16, 64]⟩
abbrev S16x64 : Shape := ⟨2, ![16, 64]⟩
abbrev S16x1x1x64 : Shape := ⟨4, ![16, 1, 1, 64]⟩

abbrev nBuf : Space → Nat
  | .hbm => 19
  | .vmem => 9
  | .smem => 0
  | _ => 0

abbrev bufTy : (tb : Table) → Fin (tcTables nBuf tb) → BufTy
  | .hbm, ⟨0, _⟩ => ⟨S16x1x16x64, .f32⟩
  | .hbm, ⟨1, _⟩ => ⟨S128x16x16x64, .f32⟩
  | .hbm, ⟨2, _⟩ => ⟨S128x16x16x64, .f32⟩
  | .hbm, ⟨3, _⟩ => ⟨S16x128, .i32⟩
  | .hbm, ⟨4, _⟩ => ⟨S16, .i32⟩
  | .hbm, ⟨5, _⟩ => ⟨S128, .i32⟩
  | .hbm, ⟨6, _⟩ => ⟨S1x128, .i32⟩
  | .hbm, ⟨7, _⟩ => ⟨S16x1, .i32⟩
  | .hbm, ⟨8, _⟩ => ⟨S16x128, .i32⟩
  | .hbm, ⟨9, _⟩ => ⟨S16x128, .i32⟩
  | .hbm, ⟨10, _⟩ => ⟨S16x128, .i1⟩
  | .hbm, ⟨11, _⟩ => ⟨S_, .i32⟩
  | .hbm, ⟨12, _⟩ => ⟨S_, .i32⟩
  | .hbm, ⟨13, _⟩ => ⟨S16x128, .i32⟩
  | .hbm, ⟨14, _⟩ => ⟨S16x128, .i32⟩
  | .hbm, ⟨15, _⟩ => ⟨S16x128x1, .i32⟩
  | .hbm, ⟨16, _⟩ => ⟨S16x16x64x128, .f32⟩
  | .hbm, ⟨17, _⟩ => ⟨S16x16x64x128, .f32⟩
  | .hbm, ⟨18, _⟩ => ⟨S16x1x16x64, .f32⟩
  | .local _ .vmem, ⟨0, _⟩ => ⟨S16x1x16x64, .f32⟩
  | .local _ .vmem, ⟨1, _⟩ => ⟨S16x128x1, .i32⟩
  | .local _ .vmem, ⟨2, _⟩ => ⟨S16x1x16x64, .f32⟩
  | .local _ .vmem, ⟨3, _⟩ => ⟨S16x16x64, .f32⟩
  | .local _ .vmem, ⟨4, _⟩ => ⟨S16x16x64, .f32⟩
  | .local _ .vmem, ⟨5, _⟩ => ⟨S16x16, .f32⟩
  | .local _ .vmem, ⟨6, _⟩ => ⟨S16x16, .f32⟩
  | .local _ .vmem, ⟨7, _⟩ => ⟨S16x16x64x128, .f32⟩
  | .local _ .vmem, ⟨8, _⟩ => ⟨S16x16x64x128, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_752 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_751 : BitVec 32 := 8#32
  let v639 : BitVec 32 := Scalar.muli v2 c8_i32_751
  let v640 : BitVec 32 := Scalar.addi c0_i32_752 v639
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_753 : BitVec 32 := 4#32
  let v641 : BitVec 32 := Scalar.muli v9 c4_i32_753
  let v642 : BitVec 32 := Scalar.addi v640 v641
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_754 : BitVec 32 := 1#32
  let v643 : BitVec 32 := Scalar.muli v8 c1_i32_754
  let v644 : BitVec 32 := Scalar.addi v642 v643
  v644.toNat
def k0_dev3 (d0 : Dev nD) : Nat :=
  let c0_i32_758 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_757 : BitVec 32 := 8#32
  let v649 : BitVec 32 := Scalar.muli v2 c8_i32_757
  let v650 : BitVec 32 := Scalar.addi c0_i32_758 v649
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_759 : BitVec 32 := 4#32
  let v651 : BitVec 32 := Scalar.muli v9 c4_i32_759
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_760 : BitVec 32 := 1#32
  let v653 : BitVec 32 := Scalar.muli v8 c1_i32_760
  let v654 : BitVec 32 := Scalar.addi v652 v653
  v654.toNat
abbrev stage0_0 : Fin 1 → Memref sig .tc .vmem S16x1x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S_ : Shape := ⟨0, ![]⟩
abbrev S16x128x1 : Shape := ⟨3, ![16, 128, 1]⟩
abbrev S16x128x16x16x64 : Shape := ⟨5, ![16, 128, 16, 16, 64]⟩
abbrev S16x2048x16x64 : Shape := ⟨4, ![16, 2048, 16, 64]⟩
abbrev S16x16x64 : Shape := ⟨3, ![16, 16, 64]⟩
abbrev S16x16x2048 : Shape := ⟨3, ![16, 16, 2048]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S16x1x2048 : Shape := ⟨3, ![16, 1, 2048]⟩
abbrev S16x16 : Shape := ⟨2, ![16, 16]⟩
abbrev S16x16x1 : Shape := ⟨3, ![16, 16, 1]⟩

abbrev nBuf : Space → Nat
  | .hbm => 73
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S256x16x16x64, .f32⟩
  | .hbm, ⟨2, _⟩ => ⟨S256x16x16x64, .f32⟩
  | .hbm, ⟨3, _⟩ => ⟨S16x128, .i32⟩
  | .hbm, ⟨4, _⟩ => ⟨S16, .i32⟩
  | .hbm, ⟨5, _⟩ => ⟨S_, .i32⟩
  | .hbm, ⟨6, _⟩ => ⟨S16x128, .i32⟩
  | .hbm, ⟨7, _⟩ => ⟨S16x128, .i1⟩
  | .hbm, ⟨8, _⟩ => ⟨S_, .i32⟩
  | .hbm, ⟨9, _⟩ => ⟨S16x128, .i32⟩
  | .hbm, ⟨10, _⟩ => ⟨S16x128, .i32⟩
  | .hbm, ⟨11, _⟩ => ⟨S16x128, .i32⟩
  | .hbm, ⟨12, _⟩ => ⟨S16x128x1, .i32⟩
  | .hbm, ⟨13, _⟩ => ⟨S16x128x16x16x64, .f32⟩
  | .hbm, ⟨14, _⟩ => ⟨S16x2048x16x64, .f32⟩
  | .hbm, ⟨15, _⟩ => ⟨S_, .i32⟩
  | .hbm, ⟨16, _⟩ => ⟨S16x128, .i32⟩
  | .hbm, ⟨17, _⟩ => ⟨S16x128, .i1⟩
  | .hbm, ⟨18, _⟩ => ⟨S_, .i32⟩
  | .hbm, ⟨19, _⟩ => ⟨S16x128, .i32⟩
  | .hbm, ⟨20, _⟩ => ⟨S16x128, .i32⟩
  | .hbm, ⟨21, _⟩ => ⟨S16x128, .i32⟩
  | .hbm, ⟨22, _⟩ => ⟨S16x128x1, .i32⟩
  | .hbm, ⟨23, _⟩ => ⟨S16x128x16x16x64, .f32⟩
  | .hbm, ⟨24, _⟩ => ⟨S16x2048x16x64, .f32⟩
  | .hbm, ⟨25, _⟩ => ⟨S16x16x64, .f32⟩
  | .hbm, ⟨26, _⟩ => ⟨S16x16x2048, .f32⟩
  | .hbm, ⟨27, _⟩ => ⟨S_, .f32⟩
  | .hbm, ⟨28, _⟩ => ⟨S16x16x2048, .f32⟩
  | .hbm, ⟨29, _⟩ => ⟨S16x16x2048, .f32⟩
  | .hbm, ⟨30, _⟩ => ⟨S2048, .i32⟩
  | .hbm, ⟨31, _⟩ => ⟨S1x2048, .i32⟩
  | .hbm, ⟨32, _⟩ => ⟨S_, .i32⟩
  | .hbm, ⟨33, _⟩ => ⟨S_, .i32⟩
  | .hbm, ⟨34, _⟩ => ⟨S1x2048, .i32⟩
  | .hbm, ⟨35, _⟩ => ⟨S1x2048, .i32⟩
  | .hbm, ⟨36, _⟩ => ⟨S1x2048, .i32⟩
  | .hbm, ⟨37, _⟩ => ⟨S_, .i32⟩
  | .hbm, ⟨38, _⟩ => ⟨S1x2048, .i32⟩
  | .hbm, ⟨39, _⟩ => ⟨S1x2048, .i1⟩
  | .hbm, ⟨40, _⟩ => ⟨S1x2048, .i32⟩
  | .hbm, ⟨41, _⟩ => ⟨S1x2048, .i32⟩
  | .hbm, ⟨42, _⟩ => ⟨S_, .i32⟩
  | .hbm, ⟨43, _⟩ => ⟨S1x2048, .i32⟩
  | .hbm, ⟨44, _⟩ => ⟨S1x2048, .i1⟩
  | .hbm, ⟨45, _⟩ => ⟨S1x2048, .i1⟩
  | .hbm, ⟨46, _⟩ => ⟨S_, .i32⟩
  | .hbm, ⟨47, _⟩ => ⟨S1x2048, .i32⟩
  | .hbm, ⟨48, _⟩ => ⟨S1x2048, .i32⟩
  | .hbm, ⟨49, _⟩ => ⟨S1x2048, .i32⟩
  | .hbm, ⟨50, _⟩ => ⟨S16x1, .i32⟩
  | .hbm, ⟨51, _⟩ => ⟨S16x2048, .i32⟩
  | .hbm, ⟨52, _⟩ => ⟨S16x2048, .i32⟩
  | .hbm, ⟨53, _⟩ => ⟨S16x2048, .i1⟩
  | .hbm, ⟨54, _⟩ => ⟨S16x1x2048, .i1⟩
  | .hbm, ⟨55, _⟩ => ⟨S_, .f32⟩
  | .hbm, ⟨56, _⟩ => ⟨S_, .f32⟩
  | .hbm, ⟨57, _⟩ => ⟨S16x16x2048, .i1⟩
  | .hbm, ⟨58, _⟩ => ⟨S16x16x2048, .f32⟩
  | .hbm, ⟨59, _⟩ => ⟨S16x16x2048, .f32⟩
  | .hbm, ⟨60, _⟩ => ⟨S_, .f32⟩
  | .hbm, ⟨61, _⟩ => ⟨S16x16, .f32⟩
  | .hbm, ⟨62, _⟩ => ⟨S16x16x1, .f32⟩
  | .hbm, ⟨63, _⟩ => ⟨S16x16x2048, .f32⟩
  | .hbm, ⟨64, _⟩ => ⟨S16x16x2048, .f32⟩
  | .hbm, ⟨65, _⟩ => ⟨S16x16x2048, .f32⟩
  | .hbm, ⟨66, _⟩ => ⟨S_, .f32⟩
  | .hbm, ⟨67, _⟩ => ⟨S16x16, .f32⟩
  | .hbm, ⟨68, _⟩ => ⟨S16x16x1, .f32⟩
  | .hbm, ⟨69, _⟩ => ⟨S16x16x2048, .f32⟩
  | .hbm, ⟨70, _⟩ => ⟨S16x16x2048, .f32⟩
  | .hbm, ⟨71, _⟩ => ⟨S16x16x64, .f32⟩
  | .hbm, ⟨72, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v28 : Ref sig .tc := ⟨.hbm, 59, rfl⟩
abbrev main_cst_5 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩

abbrev nD : Nat := 1
abbrev τ : Topo := Topo.v7x

variable {F : FTy → Type} [FloatOps F]
-- ==== Proof.Rows.lean ====
/-
  The kernel's local copies, row by row. The kernel fills its two page buffers by sixteen copies each, one row (one
  token's keys or values for every head) per copy and one semaphore per row. This file holds the state of the sixteen
  rows of one buffer as a single assertion indexed by two counts: the rows below `w` have been waited for, the rows from
  `w` up to `e` are being copied, the rows from `e` on are untouched. Starting a copy, waiting for one and loading a row
  each take one lemma, at any row.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.Kit
public import Idealize.ShloMosaic.Lib.Rounds
public import Idealize.ShloMosaic.Lib.Transfers
public import Idealize.ShloMosaic.Lib.Writes
public import Idealize.ShloMosaic.Lib.SparseCore.Stream
public import Idealize.ShloMosaic.Lib.StableHlo
public import Idealize.ShloMosaic.Lib.Tactic
public import Idealize.ShloMosaic.Lib.Pipeline.RegionTalk

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's copy, the protocol's, the local transfers' counters. -/
abbrev UU : Type := UR sig nD τ × (UR sig nD τ × Counters)

local notation "𝕄" => MT nD τ sig Unit (Elt F) ℕ UU ℕ

/-- The counters of the local transfers. -/
abbrev EC : UEmb Counters (MT nD τ sig Unit (Elt F) ℕ UU ℕ) := countersEmb

abbrev 𝒱₀ : Variants := Variants.none

/-- Row `i` of a page buffer fits. -/
abbrev RowIn (i : ℕ) : Prop := ∀ a, (![i, 0, 0, 0] : Fin 4 → ℕ) a + S1x16x64x128.size a ≤ S16x16x64x128.size a

theorem rowIn_of_lt {i : ℕ} (h : i < 16) : RowIn i := fun a => by
  fin_cases a
  · show i + 1 ≤ 16; omega
  all_goals exact le_of_eq rfl

theorem lt_of_rowIn {i : ℕ} (h : RowIn i) : i < 16 := by
  have h0 : i + 1 ≤ 16 := h 0
  omega

/-- Row `i` of a page buffer as a rectangle. -/
abbrev rowR (i : ℕ) (h : RowIn i) : Rect S16x16x64x128 := Rect.unit (s := S16x16x64x128) ![i, 0, 0, 0] S1x16x64x128.size h

/-- Row `i` of a page buffer as the kernel's copies name it. -/
abbrev rowM {sp : Space} (b : Memref sig .tc sp S16x16x64x128 .f32) (i : ℕ) (h : RowIn i) : Memref sig .tc sp S16x64x128 .f32 :=
  (b.slice (rowR i h) (fun _ => rfl)).squeeze S16x64x128 squeezes_S1x16x64x128_S16x64x128

/-- Semaphore `i` of a row of sixteen. -/
abbrev rowS (a : DmaSems sig S16) (i : ℕ) (h : ∀ x, (![i] : Fin 1 → ℕ) x + S1.size x ≤ S16.size x) : DmaSem sig :=
  ((a.slice (Rect.unit (s := S16) ![i] S1.size h)).squeeze S_ squeezes_S1_S_).sem

theorem semIn_of_lt {i : ℕ} (h : i < 16) : ∀ x, (![i] : Fin 1 → ℕ) x + S1.size x ≤ S16.size x := fun x => by
  fin_cases x
  show i + 1 ≤ 16; omega

theorem unit_congr {s : Shape} {o o' z z' : Fin s.rank → ℕ} (h : ∀ a, o a + z a ≤ s.size a) (h' : ∀ a, o' a + z' a ≤ s.size a)
    (ho : o = o') (hz : z = z') : Rect.unit (s := s) o z h = Rect.unit (s := s) o' z' h' := by
  subst ho; subst hz; rfl

theorem rowR_eq (i : Fin 16) : rowR i.val (rowIn_of_lt i.isLt) = S16x16x64x128.rowRect 0 i :=
  unit_congr _ _ (funext fun a => by fin_cases a <;> rfl) (funext fun a => by fin_cases a <;> rfl)

section Rows

variable {sp : Space} (src : Memref sig .tc sp S16x16x64x128 .f32) (dst : Memref sig .tc .vmem S16x16x64x128 .f32)
variable (sems : DmaSems sig S16) (c : Dev nD) (q : PosShare TreeShare) (fs : Buf (Elt F) (src.view.loc (c : Thread nD τ)))

abbrev srcRow (i : Fin 16) : sProp 𝕄 :=
  (rowM src i.val (rowIn_of_lt i.isLt)).view.loc (c : Thread nD τ) ↦[(rowM src i.val (rowIn_of_lt i.isLt)).view.set]{q} fs
abbrev dstRow (i : Fin 16) (f : Buf (Elt F) (dst.view.loc (c : Thread nD τ))) : sProp 𝕄 :=
  (rowM dst i.val (rowIn_of_lt i.isLt)).view.loc (c : Thread nD τ) ↦[(rowM dst i.val (rowIn_of_lt i.isLt)).view.set]{fullShare} f
abbrev semRow (i : Fin 16) : sProp 𝕄 := semVal ((c : Thread nD τ), .dma (rowS sems i.val (semIn_of_lt i.isLt))) 0

/-- An untouched row. -/
def idle (i : Fin 16) : sProp 𝕄 := iprop(srcRow src c q fs i ∗ (∃ f, dstRow dst c i f) ∗ semRow sems c i)
/-- A row after its copy: the destination's row reads as the source's. -/
def landed (i : Fin 16) : sProp 𝕄 :=
  iprop((∃ f, ⌜(dst.access (rowR i.val (rowIn_of_lt i.isLt))).read (Elt F) f = (src.access (rowR i.val (rowIn_of_lt i.isLt))).read (Elt F) fs⌝
    ∗ dstRow dst c i f) ∗ srcRow src c q fs i)
/-- A row being copied. -/
def flying (i : Fin 16) : sProp 𝕄 :=
  Transfers.Flight EC (c : Thread nD τ) (.dma (rowS sems i.val (semIn_of_lt i.isLt))) ()
    (rowM dst i.val (rowIn_of_lt i.isLt)).view.dmaCredit (landed src dst c q fs i)

/-- Row `i` when the rows below `w` have been waited for and the copies below `e` have been started. -/
def rowAt (w e : ℕ) (i : Fin 16) : sProp 𝕄 :=
  if i.val < w then iprop(landed src dst c q fs i ∗ semRow sems c i)
  else if i.val < e then flying src dst sems c q fs i else idle src dst sems c q fs i

/-- The sixteen rows. -/
def rows (w e : ℕ) : sProp 𝕄 := bigSep Finset.univ (rowAt src dst sems c q fs w e)

variable {src dst sems c q fs}

/-- One row taken out of the sixteen and put back changed. -/
theorem rows_take {w e w' e' : ℕ} (i : Fin 16) (h : ∀ j : Fin 16, j ≠ i → rowAt src dst sems c q fs w e j = rowAt src dst sems c q fs w' e' j) :
    rows src dst sems c q fs w e ⊢ iprop(rowAt src dst sems c q fs w e i ∗ (rowAt src dst sems c q fs w' e' i -∗ rows src dst sems c q fs w' e')) := by
  have hr : bigSep (Finset.univ.erase i) (rowAt src dst sems c q fs w e) = bigSep (Finset.univ.erase i) (rowAt src dst sems c q fs w' e') :=
    bigSep_congr fun j hj => h j (Finset.ne_of_mem_erase hj)
  have h1 : rows src dst sems c q fs w e
      = iprop(rowAt src dst sems c q fs w e i ∗ bigSep (Finset.univ.erase i) (rowAt src dst sems c q fs w' e')) := by
    rw [← hr]; exact bigSep_univ_split i
  have h2 : rows src dst sems c q fs w' e'
      = iprop(rowAt src dst sems c q fs w' e' i ∗ bigSep (Finset.univ.erase i) (rowAt src dst sems c q fs w' e')) := bigSep_univ_split i
  rw [h1, h2]
  iintro ⟨H, HR⟩
  isplitl [H]; · iexact H
  iintro H
  isplitl [H] <;> iassumption

theorem rowAt_enq {i : ℕ} {j : Fin 16} (h : j.val ≠ i) :
    rowAt src dst sems c q fs 0 i j = rowAt src dst sems c q fs 0 (i + 1) j := by
  unfold rowAt
  simp only [Nat.not_lt_zero, if_false]
  exact ite_congr (propext ⟨fun _ => by omega, fun _ => by omega⟩) (fun _ => rfl) (fun _ => rfl)

theorem rowAt_wait {i : ℕ} {j : Fin 16} (h : j.val ≠ i) :
    rowAt src dst sems c q fs i 16 j = rowAt src dst sems c q fs (i + 1) 16 j := by
  unfold rowAt
  exact ite_congr (propext ⟨fun _ => by omega, fun _ => by omega⟩) (fun _ => rfl) (fun _ => rfl)

theorem rowAt_idle {i : ℕ} (h : i < 16) : rowAt src dst sems c q fs 0 i ⟨i, h⟩ = idle src dst sems c q fs ⟨i, h⟩ := by
  unfold rowAt
  simp only [Nat.not_lt_zero, if_false, Nat.lt_irrefl]

theorem rowAt_fly {w e i : ℕ} (h : i < 16) (hw : w ≤ i) (he : i < e) : rowAt src dst sems c q fs w e ⟨i, h⟩ = flying src dst sems c q fs ⟨i, h⟩ := by
  unfold rowAt
  rw [if_neg (Nat.not_lt.mpr hw), if_pos he]

theorem rowAt_land {w e i : ℕ} (h : i < 16) (hw : i < w) :
    rowAt src dst sems c q fs w e ⟨i, h⟩ = iprop(landed src dst c q fs ⟨i, h⟩ ∗ semRow sems c ⟨i, h⟩) := by
  unfold rowAt
  exact if_pos hw

theorem read_reshape_write {sp sp' : Space} {s s' : Shape} {e : EltTy} {Val : EltTy → Type} (v : View sig .tc sp s e) (u : View sig .tc sp' s e)
    (hn : s'.numel = s.numel) (fd : v.ty.Contents Val) (g : u.ty.Contents Val) :
    v.read Val ((v.reshape s' hn).write Val fd ((u.reshape s' hn).read Val g) Finset.univ) = u.read Val g := by
  rw [View.write_reshape_univ, View.read_write_univ]
  funext x
  show u.read Val g (Shape.reshapeEquiv hn ((Shape.reshapeEquiv hn).symm x)) = u.read Val g x
  rw [Equiv.apply_symm_apply]

variable {α : Type} {Q : α → sProp (MT nD τ sig Unit (Elt F) ℕ UU ℕ)}

/-- What the copy of row `i` delivers is the row landed. -/
theorem landed_intro {i : ℕ} (h : RowIn i) (hi : i < 16) (fd : Buf (Elt F) (dst.view.loc (c : Thread nD τ))) :
    iprop(dstRow dst c ⟨i, hi⟩ ((rowM dst i h).view.write (Elt F) fd ((rowM src i h).view.read (Elt F) fs) Finset.univ)
        ∗ srcRow src c q fs ⟨i, hi⟩) ⊢ (landed src dst c q fs ⟨i, hi⟩ : sProp 𝕄) := by
  unfold landed
  iintro ⟨Hd, Hs⟩
  isplitl [Hd]
  · iexists ((rowM dst i h).view.write (Elt F) fd ((rowM src i h).view.read (Elt F) fs) Finset.univ)
    isplitr
    · ipureintro
      exact read_reshape_write (dst.view.slice (rowR i h)) (src.view.slice (rowR i h)) _ fd fs
    iexact Hd
  iexact Hs

/-- Starting the copy of row `i`. -/
theorem rows_enqueue {i : ℕ} {h : RowIn i} {h' : ∀ x, (![i] : Fin 1 → ℕ) x + S1.size x ≤ S16.size x}
    {hsrc : (rowM src i h).view.WordExact} {hdst : (rowM dst i h).view.WordExact}
    {hsem : DmaTarget.Typed (nD := nD) (τ := τ) (p := (.tc : Proc τ)) sp (.dma (rowS sems i h')) (.here (rowM dst i h))}
    {k : PUnit → Prog (TpuEff nD τ sig (Elt F) Λ₀ .tc) α} :
    rows src dst sems c q fs 0 i
      ⊢ iprop((rows src dst sems c q fs 0 (i + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM src i h) (.here (rowM dst i h)) (.dma (rowS sems i h')) hsrc hdst hsem) k) Q) := by
  have hi : i < 16 := lt_of_rowIn h
  refine (rows_take (w' := 0) (e' := i + 1) ⟨i, hi⟩ fun j hj => rowAt_enq fun e => hj (Fin.ext e)).trans ?_
  rw [rowAt_idle hi, rowAt_fly hi (Nat.zero_le _) (Nat.lt_succ_self _)]
  unfold idle
  iintro ⟨⟨Hs, ⟨%fd, Hd⟩, Hv⟩, Hback⟩ Hk
  iapply (Transfers.wp_dmaLocal EC 𝒱₀ (c : Thread nD τ) none () (rowM dst i h).view.dmaCredit rfl (View.dmaCredit_pos _ (by decide))
    (Finset.Subset.refl _)) $$ [Hs Hd Hv]
  · isplitl [Hs]; · iexact Hs
    isplitl [Hd]; · iexact Hd
    iexact Hv
  iintro HF
  iapply Hk
  iapply Hback
  unfold flying
  iapply (Transfers.Flight_mono EC (c : Thread nD τ) (landed_intro (src := src) (dst := dst) (q := q) (fs := fs) h hi fd)) $$ HF

/-- Waiting for row `i`, while owing what the wait's level allows. -/
theorem rows_wait {i : ℕ} {h : RowIn i} {h' : ∀ x, (![i] : Fin 1 → ℕ) x + S1.size x ≤ S16.size x}
    {hsrc : (rowM src i h).view.WordExact} {hdst : (rowM dst i h).view.WordExact}
    {k : PUnit → Prog (TpuEff nD τ sig (Elt F) Λ₀ .tc) α} {P : sProp 𝕄} {O : CellTallies nD τ sig Unit}
    (hP : P ⊢ MayWait (c : Thread nD τ) (.dma (rowS sems i h')) () O) :
    iprop(P ∗ rows src dst sems c q fs i 16 ∗ ∃ W, owes (c : Thread nD τ) O W)
      ⊢ iprop((iprop(rows src dst sems c q fs (i + 1) 16 ∗ ∃ W, owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (rowS sems i h') (rowM src i h) (rowM dst i h) hsrc hdst) k) Q) := by
  have hi : i < 16 := lt_of_rowIn h
  have hR := (rows_take (src := src) (dst := dst) (sems := sems) (c := c) (q := q) (fs := fs) (w := i) (e := 16) (w' := i + 1) (e' := 16) ⟨i, hi⟩ fun j hj => rowAt_wait fun e => hj (Fin.ext e))
  rw [rowAt_fly hi (Nat.le_refl _) hi, rowAt_land hi (Nat.lt_succ_self _)] at hR
  iintro ⟨HP, HR, ⟨%W, HO⟩⟩ Hk
  ihave HR' := hR $$ HR
  icases HR' with ⟨HF, Hback⟩
  unfold flying
  iapply (Transfers.wp_waitLocalO EC 𝒱₀ (c : Thread nD τ) none () rfl) $$ [HP HF HO]
  · isplitl [HF]; · iexact HF
    isplitl [HO]; · iexact HO
    iapply hP $$ HP
  iintro ⟨HD, Hv, HO⟩
  iapply Hk
  isplitr [HO]
  · iapply Hback
    isplitl [HD] <;> iassumption
  · iexists _
    iexact HO

/-- Loading row `i` once it has been waited for. -/
theorem rows_load {i : ℕ} {h : RowIn i} {hl : dst.view.LoadsAt (rowR i h).toLoadRect}
    {k : ((rowR i h).shape.Idx → Elt F .f32) → Prog (TpuEff nD τ sig (Elt F) Λ₀ .tc) α} :
    rows src dst sems c q fs (i + 1) 16
      ⊢ iprop((rows src dst sems c q fs (i + 1) 16
            -∗ wp frame (wpE (defs₀ (F := F)) 𝒱₀ (c : Thread nD τ) none) Set.univ (k ((src.access (rowR i h)).read (Elt F) fs)) Q)
          -∗ wp frame (wpE (defs₀ (F := F)) 𝒱₀ (c : Thread nD τ) none) Set.univ
              (.op (.load dst (rowR i h).toLoadRect hl) k) Q) := by
  have hi : i < 16 := lt_of_rowIn h
  have hR := (rows_take (src := src) (dst := dst) (sems := sems) (c := c) (q := q) (fs := fs) (w := i + 1) (e := 16) (w' := i + 1) (e' := 16) ⟨i, hi⟩ fun j hj => rfl)
  rw [rowAt_land hi (Nat.lt_succ_self _)] at hR
  iintro HR Hk
  ihave HR' := hR $$ HR
  icases HR' with ⟨HL, Hback⟩
  unfold landed
  icases HL with ⟨⟨⟨%f, %hf, Hd⟩, Hs⟩, Hv⟩
  iapply (wp_load_rect 𝒱₀ (c : Thread nD τ) none Set.univ (m := dst) (r := rowR i h) (S := (rowM dst i h).view.set) (f := f)
    (by rw [View.set_reshape])) $$ Hd
  iintro Hd
  rw [hf]
  iapply Hk
  iapply Hback
  isplitr [Hv]
  · isplitl [Hd]
    · iexists f
      isplitr
      · ipureintro; exact hf
      iexact Hd
    iexact Hs
  iexact Hv

theorem rowM_set {sp : Space} (b : Memref sig .tc sp S16x16x64x128 .f32) (i : Fin 16) :
    (rowM b i.val (rowIn_of_lt i.isLt)).view.set = (b.view.slice (S16x16x64x128.rowRect 0 i)).set := by
  rw [View.set_reshape]
  show (b.view.slice (rowR i.val (rowIn_of_lt i.isLt))).set = _
  rw [rowR_eq i]

/-- A whole page buffer is its sixteen rows. -/
theorem pointsTo_rowM {sp : Space} (b : Memref sig .tc sp S16x16x64x128 .f32) (c : Dev nD) (q : PosShare TreeShare)
    (f : Buf (Elt F) (b.view.loc (c : Thread nD τ))) :
    ((b.view.loc (c : Thread nD τ) ↦[b.view.set]{q} f) : sProp 𝕄) = bigSep Finset.univ fun i : Fin 16 => srcRow b c q f i := by
  rw [pointsTo_rows (c : Thread nD τ) b.view (0 : Fin 4) q f]
  refine bigSep_congr fun i _ => ?_
  unfold srcRow
  rw [View.set_reshape]
  show _ = ((b.view.loc (c : Thread nD τ) ↦[(b.view.slice (rowR i.val (rowIn_of_lt i.isLt))).set]{q} f) : sProp 𝕄)
  rw [rowR_eq i]

/-- The sixteen rows before any copy. -/
theorem rows_intro :
    iprop((src.view.loc (c : Thread nD τ) ↦[src.view.set]{q} fs) ∗ (∃ f, dst.view.loc (c : Thread nD τ) ↦[dst.view.set]{fullShare} f)
      ∗ bigSep Finset.univ fun i : Fin 16 => semRow sems c i) ⊢ (rows src dst sems c q fs 0 0 : sProp 𝕄) := by
  have hr : rows src dst sems c q fs 0 0 = bigSep Finset.univ (idle src dst sems c q fs) :=
    bigSep_congr fun i _ => by unfold rowAt; simp only [Nat.not_lt_zero, if_false]
  rw [hr]
  iintro ⟨Hs, ⟨%f, Hd⟩, Hv⟩
  ihave Hs := (Entails.of_eq (pointsTo_rowM src c q fs)) $$ Hs
  ihave Hd := (Entails.of_eq (pointsTo_rowM dst c fullShare f)) $$ Hd
  ihave Hdv := (Entails.of_eq (bigSep_sep' (s := Finset.univ) (Φ := fun i : Fin 16 => dstRow dst c i f) (Ψ := fun i => semRow sems c i)).symm) $$ [Hd Hv]
  · isplitl [Hd] <;> iassumption
  ihave H := (Entails.of_eq (bigSep_sep' (s := Finset.univ) (Φ := fun i : Fin 16 => srcRow src c q fs i)
    (Ψ := fun i => iprop(dstRow dst c i f ∗ semRow sems c i))).symm) $$ [Hs Hdv]
  · isplitl [Hs] <;> iassumption
  have hm : ∀ i ∈ Finset.univ, iprop(srcRow src c q fs i ∗ dstRow dst c i f ∗ semRow sems c i) ⊢ (idle src dst sems c q fs i : sProp 𝕄) := fun i _ => by
    unfold idle
    iintro ⟨Hs, Hd, Hv⟩
    isplitl [Hs]; · iexact Hs
    isplitl [Hd]; · iexists f; iexact Hd
    iexact Hv
  iapply (show bigSep Finset.univ (fun i => iprop(srcRow src c q fs i ∗ dstRow dst c i f ∗ semRow sems c i)) ⊢ (bigSep Finset.univ (idle src dst sems c q fs) : sProp 𝕄) from bigSep_mono hm) $$ H

/-- The sixteen rows after every wait: the buffers and the semaphores back. -/
theorem rows_elim :
    (rows src dst sems c q fs 16 16 : sProp 𝕄)
      ⊢ iprop((src.view.loc (c : Thread nD τ) ↦[src.view.set]{q} fs) ∗ (∃ f, dst.view.loc (c : Thread nD τ) ↦[dst.view.set]{fullShare} f)
      ∗ bigSep Finset.univ fun i : Fin 16 => semRow sems c i) := by
  have hr : rows src dst sems c q fs 16 16 = bigSep Finset.univ fun i => iprop(landed src dst c q fs i ∗ semRow sems c i) :=
    bigSep_congr fun i _ => by unfold rowAt; exact if_pos i.isLt
  have hm : ∀ i ∈ Finset.univ, iprop(landed src dst c q fs i ∗ semRow sems c i)
      ⊢ (iprop(srcRow src c q fs i ∗ (∃ f, dstRow dst c i f) ∗ semRow sems c i) : sProp 𝕄) := fun i _ => by
    unfold landed
    iintro ⟨⟨⟨%f, -, Hd⟩, Hs⟩, Hv⟩
    isplitl [Hs]; · iexact Hs
    isplitl [Hd]; · iexists f; iexact Hd
    iexact Hv
  rw [hr]
  have hS : dst.view.set = Finset.univ.biUnion fun i : Fin 16 => (rowM dst i.val (rowIn_of_lt i.isLt)).view.set :=
    (dst.view.set_eq_biUnion_rows (0 : Fin 4)).trans (Finset.biUnion_congr rfl fun k _ => (rowM_set dst k).symm)
  have hm' : bigSep Finset.univ (fun i => iprop(landed src dst c q fs i ∗ semRow sems c i))
      ⊢ (bigSep Finset.univ fun i => iprop(srcRow src c q fs i ∗ (∃ f, dstRow dst c i f) ∗ semRow sems c i) : sProp 𝕄) := bigSep_mono hm
  refine BIBase.Entails.trans hm' ?_
  rw [bigSep_sep', bigSep_sep', pointsTo_rowM src c q fs]
  iintro ⟨Hs, Hd, Hv⟩
  isplitl [Hs]; · iexact Hs
  isplitl [Hd]
  · ihave Hd := (bigSep_exists_pi Finset.univ) $$ Hd
    icases Hd with ⟨%g, Hd⟩
    ihave Hd := (pointsTo_biUnion_join (ℓ := dst.view.loc (c : Thread nD τ)) (q := fullShare) Finset.univ
      (fun i : Fin 16 => (rowM dst i.val (rowIn_of_lt i.isLt)).view.set) g (g 0) ?_) $$ Hd
    · intro k _ k' _ hk
      rw [rowM_set, rowM_set]
      exact dst.view.disjoint_rows (0 : Fin 4) hk
    icases Hd with ⟨%f, -, Hd⟩
    iexists f
    rw [hS]
    iexact Hd
  iexact Hv

end Rows

end Cert.PagedAttn

end
-- ==== Proof.Protocol.lean ====
/-
  The exchange between two devices that share a page range. Each device has one partner. A device signals its partner's
  barrier semaphore: with the unit it hands over its two landing buffers and the knowledge that its two receive
  semaphores are open. After its own barrier unit a device therefore holds its partner's landing buffers; it copies its
  partial output and its partial normaliser into them. Each copy pays two semaphores: the sender's gives the source back,
  the receiver's gives the receiver its landing buffer at the sender's values.
-/
module

public import proofs.«01_k».proof.Proof.Rows

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The pipeline library's rounds. -/
abbrev EP : Emb (UR sig nD τ) (MT nD τ sig Unit (Elt F) ℕ UU ℕ) := embL
/-- The exchange's rounds. -/
def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (sig := sig) (Ix := Unit) (Val := Elt F) (Name := ℕ) (U := UU) (Lvl := ℕ)).toEmb
instance ER_lands : (ER (F := F)).LandsIn (upEmb : UEmb _ 𝕄) := by unfold ER; infer_instance

/-! ## The partner -/

/-- The device with the other half of the pages, for the same tokens and heads. -/
def pr (c : Dev nD) : Dev nD := ⟨k0_dev1 c, k0_dev1_lt c⟩

theorem pr_val (c : Dev nD) : (pr c).val = (8 * (c.val / 8) + (c.val % 4) + 4) - 4 * ((c.val / 4) % 2) := k0_dev1_eq c
theorem pr_pr (c : Dev nD) : pr (pr c) = c := Fin.ext (by rw [pr_val, pr_val]; omega)
theorem pr_dev2 (c : Dev nD) : (⟨k0_dev2 c, k0_dev2_lt c⟩ : Dev nD) = pr c := Fin.ext ((k0_dev2_eq c).trans (k0_dev1_eq c).symm)
theorem pr_dev3 (c : Dev nD) : (⟨k0_dev3 c, k0_dev3_lt c⟩ : Dev nD) = pr c := Fin.ext ((k0_dev3_eq c).trans (k0_dev1_eq c).symm)

/-! ## The semaphores, by what they are for -/

/-- What a semaphore of the exchange is for. -/
inductive Role where
  /-- the partner is ready -/
  | bar
  /-- the partial output has left -/
  | s0
  /-- the partial normaliser has left -/
  | s1
  /-- the partner's partial output has come -/
  | r0
  /-- the partner's partial normaliser has come -/
  | r1
deriving DecidableEq

abbrev barS : Sem sig := (SemArray.scalar (sig.barrier 0 rfl) : Sems sig S_).sem
abbrev pairS (a : DmaSems sig S2) (i : ℕ) (h : ∀ x, (![i] : Fin 1 → ℕ) x + S1.size x ≤ S2.size x) : DmaSem sig :=
  ((a.slice (Rect.unit (s := S2) ![i] S1.size h)).squeeze S_ squeezes_S1_S_).sem
abbrev send0 : DmaSem sig := pairS cc0_scratch8 0 inb_S2_S1_0
abbrev send1 : DmaSem sig := pairS cc0_scratch8 1 inb_S2_S1_1
abbrev recv0 : DmaSem sig := pairS cc0_scratch9 0 inb_S2_S1_0
abbrev recv1 : DmaSem sig := pairS cc0_scratch9 1 inb_S2_S1_1

/-- The semaphore of a role. -/
abbrev Role.sm : Role → SemLoc sig
  | .bar => .reg barS
  | .s0 => .dma send0
  | .s1 => .dma send1
  | .r0 => .dma recv0
  | .r1 => .dma recv1

/-- The role of a semaphore, if it has one. -/
def roleOf (s : SemLoc sig) : Option Role :=
  if s = Role.bar.sm then some .bar else if s = Role.s0.sm then some .s0 else if s = Role.s1.sm then some .s1
  else if s = Role.r0.sm then some .r0 else if s = Role.r1.sm then some .r1 else none

theorem roleOf_sm (r : Role) : roleOf r.sm = some r := by cases r <;> decide

theorem eq_sm_of_roleOf {s : SemLoc sig} {r : Role} (h : roleOf s = some r) : s = r.sm := by
  unfold roleOf at h
  split_ifs at h with h0 h1 h2 h3 h4 <;> (obtain rfl := Option.some.inj h; assumption)

theorem sm_injective {r r' : Role} (h : r.sm = r'.sm) : r = r' :=
  Option.some.inj (by rw [← roleOf_sm r, ← roleOf_sm r', h])

/-- A device's cell for a role. -/
abbrev cell (c : Dev nD) (r : Role) : GSem nD τ sig := ((c : Thread nD τ), r.sm)

/-! ## The buffers of the exchange -/

abbrev oM : Memref sig .tc .vmem S16x16x64 .f32 := Memref.whole cc0_scratch0
abbrev oR : Memref sig .tc .vmem S16x16x64 .f32 := Memref.whole cc0_scratch1
abbrev lM : Memref sig .tc .vmem S16x16 .f32 := Memref.whole cc0_scratch2
abbrev lR : Memref sig .tc .vmem S16x16 .f32 := Memref.whole cc0_scratch3

abbrev No : ℕ := oR.view.dmaCredit
abbrev Nl : ℕ := lR.view.dmaCredit
theorem No_pos : 0 < No := View.dmaCredit_pos _ (by decide)
theorem Nl_pos : 0 < Nl := View.dmaCredit_pos _ (by decide)

/-- A whole buffer of one device at a share. -/
abbrev bpt {e : EltTy} {s : Shape} {sp : Space} (b : Memref sig .tc sp s e) (c : Dev nD) (q : PosShare TreeShare)
    (f : Buf (Elt F) (b.view.loc (c : Thread nD τ))) : sProp 𝕄 :=
  b.view.loc (c : Thread nD τ) ↦[b.view.set]{q} f

theorem oR_landed (fd : (cc0_scratch1 : Ref sig .tc).ty.Contents (Elt F)) (fs : (cc0_scratch0 : Ref sig .tc).ty.Contents (Elt F)) :
    oR.view.write (Elt F) fd (oM.view.read (Elt F) fs) Finset.univ = fs := by
  show (View.whole cc0_scratch1).write (Elt F) fd ((View.whole cc0_scratch0).read (Elt F) fs) Finset.univ = fs
  rw [View.read_whole]; exact View.write_whole_univ _ _ _
theorem lR_landed (fd : (cc0_scratch3 : Ref sig .tc).ty.Contents (Elt F)) (fs : (cc0_scratch2 : Ref sig .tc).ty.Contents (Elt F)) :
    lR.view.write (Elt F) fd (lM.view.read (Elt F) fs) Finset.univ = fs := by
  show (View.whole cc0_scratch3).write (Elt F) fd ((View.whole cc0_scratch2).read (Elt F) fs) Finset.univ = fs
  rw [View.read_whole]; exact View.write_whole_univ _ _ _

/-! ## The schedule -/

variable (oV : Dev nD → S16x16x64.Idx → Elt F .f32) (lV : Dev nD → S16x16.Idx → Elt F .f32)

/-- What is paid to a device's cell of a role: the devices' partial outputs are `oV`, their partial normalisers `lV`. -/
def pay (c : Dev nD) : Role → sProp (MT nD τ sig Unit (Elt F) ℕ UU ℕ)
  | .bar => iprop((∃ f, bpt oR (pr c) fullShare f) ∗ (∃ f, bpt lR (pr c) fullShare f)
      ∗ reached ER (cell (pr c) .r0) 0 ∗ reached ER (cell (pr c) .r1) 0)
  | .s0 => bpt oM c fullShare.left (oV c)
  | .s1 => bpt lM c fullShare.left (lV c)
  | .r0 => bpt oR c fullShare (oV (pr c))
  | .r1 => bpt lR c fullShare (lV (pr c))

/-- The units of a role. -/
def amt : Role → ℕ
  | .bar => 1
  | .s0 => No
  | .s1 => Nl
  | .r0 => No
  | .r1 => Nl

theorem amt_pos (r : Role) : 0 < amt r := by
  cases r
  · exact Nat.one_pos
  · exact No_pos
  · exact Nl_pos
  · exact No_pos
  · exact Nl_pos

/-- One round on every cell with a role, one duty in it. -/
def sched : Rounds.Schedule (GSem nD τ sig) Unit 𝕄 where
  duties g r := if r = 0 ∧ g.1.2 = .tc ∧ (roleOf g.2).isSome then {()} else ∅
  unitless _ := False
  amount g _ _ := (roleOf g.2).elim 1 amt
  payload g _ _ := (roleOf g.2).elim iprop(emp) (pay oV lV g.1.1)
  amount_pos g _ _ _ := by
    cases roleOf g.2 with
    | none => exact Nat.one_pos
    | some r => exact amt_pos r

instance bpt_storable {e : EltTy} {s : Shape} {sp : Space} (b : Memref sig .tc sp s e) (c : Dev nD) (q : PosShare TreeShare)
    (f : Buf (Elt F) (b.view.loc (c : Thread nD τ))) : BI.Storable (upEmb : UEmb _ 𝕄) (bpt b c q f : sProp 𝕄) := by
  unfold bpt; infer_instance

instance reached_storable (g : GSem nD τ sig) : BI.Storable (upEmb : UEmb _ 𝕄) (reached (ER (F := F)) g 0 : sProp 𝕄) := by
  infer_instance

instance pay_storable (c : Dev nD) (r : Role) : BI.Storable (upEmb : UEmb _ 𝕄) (pay (F := F) oV lV c r) := by
  cases r with
  | bar =>
    dsimp only [pay]
    have h1 : BI.Storable (upEmb : UEmb _ 𝕄) (iprop(∃ f, bpt oR (pr c) fullShare f) : sProp 𝕄) := inferInstance
    have h2 : BI.Storable (upEmb : UEmb _ 𝕄) (iprop(∃ f, bpt lR (pr c) fullShare f) : sProp 𝕄) := inferInstance
    have h3 := reached_storable (F := F) (cell (pr c) .r0)
    have h4 := reached_storable (F := F) (cell (pr c) .r1)
    have h5 : BI.Storable (upEmb : UEmb _ 𝕄) (iprop(reached (ER (F := F)) (cell (pr c) .r0) 0 ∗ reached ER (cell (pr c) .r1) 0) : sProp 𝕄) := inferInstance
    infer_instance
  | s0 => exact bpt_storable _ _ _ _
  | s1 => exact bpt_storable _ _ _ _
  | r0 => exact bpt_storable _ _ _ _
  | r1 => exact bpt_storable _ _ _ _

instance sched_payload_storable (g : GSem nD τ sig) (r : ℕ) (d : Unit) :
    BI.Storable (upEmb : UEmb _ 𝕄) ((sched (F := F) oV lV).payload g r d) := by
  show BI.Storable upEmb ((roleOf g.2).elim iprop(emp) (pay oV lV g.1.1))
  cases roleOf g.2 with
  | none => exact (inferInstance : BI.Storable (upEmb : UEmb _ 𝕄) iprop(emp))
  | some r => exact pay_storable oV lV g.1.1 r

variable (c : Dev nD) (r : Role)

theorem duties_cell : (sched (F := F) oV lV).duties (cell c r) 0 = {()} := by
  dsimp only [sched]; rw [roleOf_sm]; exact if_pos ⟨rfl, rfl, rfl⟩
theorem mem_duties : () ∈ (sched (F := F) oV lV).duties (cell c r) 0 := by rw [duties_cell]; exact Finset.mem_singleton_self _
theorem duties_later (g : GSem nD τ sig) : ∀ n, 1 ≤ n → (sched (F := F) oV lV).duties g n = ∅ :=
  fun n hn => by dsimp only [sched]; exact if_neg fun h => by omega
theorem amount_cell (u : Unit) : (sched (F := F) oV lV).amount (cell c r) 0 u = amt r := by
  dsimp only [sched]; rw [roleOf_sm]; rfl
theorem payload_cell (u : Unit) : (sched (F := F) oV lV).payload (cell c r) 0 u = pay oV lV c r := by
  dsimp only [sched]; rw [roleOf_sm]; rfl
theorem expect_cell : (sched (F := F) oV lV).expect (cell c r) 0 = amt r := by
  unfold Schedule.expect Schedule.amountOf; rw [duties_cell, Finset.sum_singleton, amount_cell]
theorem rest_cell : bigSep ((sched (F := F) oV lV).duties (cell c r) 0 \ ∅) (fun u => (sched (F := F) oV lV).payload (cell c r) 0 u) = pay oV lV c r := by
  rw [Finset.sdiff_empty, duties_cell, bigSep_singleton, payload_cell]

/-! ## Debts and levels -/

omit [FloatOps F]

/-- What a device owes once it has signalled: its partner's two receive credits. -/
def O₁ (c : Dev nD) : CellTallies nD τ sig Unit := tallyAt (cell (pr c) .r1) () Nl + tallyAt (cell (pr c) .r0) () No
/-- What a device owes at launch: also its partner's barrier unit. -/
def O₀ (c : Dev nD) : CellTallies nD τ sig Unit := O₁ c + tallyAt (cell (pr c) .bar) () 1

def L (g : GSem nD τ sig) : Finset Unit := if g.1.2 = .tc then {()} else ∅
/-- Local semaphores below the barrier, the barrier below the receive semaphores. -/
def lv (g : GSem nD τ sig) (_ : Unit) : ℕ := if g.2 = Role.bar.sm then 1 else if g.2 = Role.r0.sm ∨ g.2 = Role.r1.sm then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_cases {c : Dev nD} {g : GSem nD τ sig} {u : Unit} (h : 0 < O₁ c g u) : g = cell (pr c) .r1 ∨ g = cell (pr c) .r0 := by
  by_contra hn
  rw [not_or] at hn
  have h1 : tallyAt (cell (pr c) .r1) () Nl g u = 0 := by rw [tallyAt_apply, if_neg fun e => hn.1 e.1]
  have h0 : tallyAt (cell (pr c) .r0) () No g u = 0 := by rw [tallyAt_apply, if_neg fun e => hn.2 e.1]
  have : O₁ c g u = tallyAt (cell (pr c) .r1) () Nl g u + tallyAt (cell (pr c) .r0) () No g u := rfl
  omega

/-- A semaphore below the receive semaphores may be waited for while the partner's receive credits are owed. -/
theorem mayWait_below (c : Dev nD) (sm : SemLoc sig) (h0 : sm ≠ Role.r0.sm) (h1 : sm ≠ Role.r1.sm) :
    (levAts L lv : sProp 𝕄) ⊢ MayWait (c : Thread nD τ) sm () (O₁ c) :=
  MayOwe.of_cut (L := L) (lev := lv) 1 (fun p hp => by rw [Finset.mem_singleton.mp hp, L_tc]; exact Finset.mem_singleton_self _)
    (fun g u hg => by rcases O₁_cases hg with rfl | rfl <;> (rw [L_tc]; exact Finset.mem_singleton_self _))
    (fun p hp => by
      rw [Finset.mem_singleton.mp hp]; dsimp only [lv]
      split_ifs with a b
      · exact Nat.le_refl _
      · exact absurd b (by rintro (b | b); exacts [h0 b, h1 b])
      · exact Nat.zero_le _)
    (fun g u hg => by
      rcases O₁_cases hg with rfl | rfl
      · show 1 < if Role.r1.sm = Role.bar.sm then 1 else if Role.r1.sm = Role.r0.sm ∨ Role.r1.sm = Role.r1.sm then 2 else 0
        rw [if_neg (by decide), if_pos (.inr rfl)]; decide
      · show 1 < if Role.r0.sm = Role.bar.sm then 1 else if Role.r0.sm = Role.r0.sm ∨ Role.r0.sm = Role.r1.sm then 2 else 0
        rw [if_neg (by decide), if_pos (.inl rfl)]; decide)

/-! ## The ghost state -/

variable [FloatOps F]

/-- The invariants a device opens: its own five cells', its partner's barrier and receive cells'. -/
def invs (K : GSem nD τ sig → ℕ) (c : Dev nD) : sProp 𝕄 :=
  iprop(cellInv ER (sched oV lV) (K (cell c .bar)) (cell c .bar)
    ∗ cellInv ER (sched oV lV) (K (cell c .s0)) (cell c .s0) ∗ cellInv ER (sched oV lV) (K (cell c .s1)) (cell c .s1)
    ∗ cellInv ER (sched oV lV) (K (cell c .r0)) (cell c .r0) ∗ cellInv ER (sched oV lV) (K (cell c .r1)) (cell c .r1)
    ∗ cellInv ER (sched oV lV) (K (cell (pr c) .bar)) (cell (pr c) .bar)
    ∗ cellInv ER (sched oV lV) (K (cell (pr c) .r0)) (cell (pr c) .r0) ∗ cellInv ER (sched oV lV) (K (cell (pr c) .r1)) (cell (pr c) .r1))

instance invs_persistent (K : GSem nD τ sig → ℕ) (c : Dev nD) : BI.Persistent (invs (F := F) oV lV K c) := by unfold invs; infer_instance

/-- The tokens a device pays with. -/
def payToks (c : Dev nD) : sProp 𝕄 :=
  iprop(dutyTok ER (cell (pr c) .bar) 0 () ∗ dutyTok ER (cell (pr c) .r0) 0 () ∗ dutyTok ER (cell (pr c) .r1) 0 ()
    ∗ dutyTok ER (cell c .s0) 0 () ∗ dutyTok ER (cell c .s1) 0 ())

/-- What a device carries from launch to its kernel: the barrier cell is open, the other four are still to be opened. -/
def ghost (K : GSem nD τ sig → ℕ) (c : Dev nD) : sProp 𝕄 :=
  iprop(invs oV lV K c ∗ atPos ER (cell c .bar) 0 ∅ 0
    ∗ openTok ER (cell c .s0) ∗ openTok ER (cell c .s1) ∗ openTok ER (cell c .r0) ∗ openTok ER (cell c .r1)
    ∗ reached ER (cell (pr c) .bar) 0 ∗ payToks c)

/-- The credits a device waits with. -/
def waitCreds (c : Dev nD) : sProp 𝕄 :=
  iprop(cred (tallyAt (cell c .bar) () 1) ∗ cred (tallyAt (cell c .r0) () No) ∗ cred (tallyAt (cell c .r1) () Nl))

/-- The same with the four cells opened. -/
def opened (K : GSem nD τ sig → ℕ) (c : Dev nD) : sProp 𝕄 :=
  iprop(invs oV lV K c ∗ atPos ER (cell c .bar) 0 ∅ 0
    ∗ (atPos ER (cell c .s0) 0 ∅ 0 ∗ reached ER (cell c .s0) 0) ∗ (atPos ER (cell c .s1) 0 ∅ 0 ∗ reached ER (cell c .s1) 0)
    ∗ (atPos ER (cell c .r0) 0 ∅ 0 ∗ reached ER (cell c .r0) 0) ∗ (atPos ER (cell c .r1) 0 ∅ 0 ∗ reached ER (cell c .r1) 0)
    ∗ reached ER (cell (pr c) .bar) 0 ∗ payToks c)

/-- A cell whose round is over gives its counter back, at zero. -/
theorem close (κ : ℕ) (g : GSem nD τ sig) :
    iprop(cellInv ER (sched oV lV) κ g ∗ atPos ER g (0 + 1) ∅ 0) ⊢ (|={Set.univ}=> semVal g 0 : sProp 𝕄) :=
  Rounds.cell_close ER (sched oV lV) (Set.mem_univ κ) id (duties_later oV lV g)

end Cert.PagedAttn

end
-- ==== Proof.BodyEnter.lean ====
/-
  The first third of the kernel's body: the meeting with the partner, and the start of the thirty-two row copies.
-/
module

public import proofs.«01_k».proof.Proof.Protocol

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev kH : Memref sig .tc .hbm S16x16x64x128 .f32 := Memref.whole main_v9
abbrev vH : Memref sig .tc .hbm S16x16x64x128 .f32 := Memref.whole main_v10
abbrev kB : Memref sig .tc .vmem S16x16x64x128 .f32 := Memref.whole cc0_scratch4
abbrev vB : Memref sig .tc .vmem S16x16x64x128 .f32 := Memref.whole cc0_scratch5

/-- A part of the body, as a function of the kernel's operands. -/
abbrev PartTy (α : Type 1) : Type 1 :=
  ∀ (arg0 : Memref sig .tc .vmem S16x1x16x64 .f32) (harg0 : arg0.IsWhole) (arg1 : Memref sig .tc .hbm S16x16x64x128 .f32) (harg1 : arg1.IsWhole)
      (arg2 : Memref sig .tc .hbm S16x16x64x128 .f32) (harg2 : arg2.IsWhole) (arg3 : Memref sig .tc .vmem S16x128x1 .i32) (harg3 : arg3.IsWhole)
      (arg4 : Memref sig .tc .vmem S16x1x16x64 .f32) (harg4 : arg4.IsWhole) (arg5 : Memref sig .tc .vmem S16x16x64 .f32) (harg5 : arg5.IsWhole)
      (arg6 : Memref sig .tc .vmem S16x16x64 .f32) (harg6 : arg6.IsWhole) (arg7 : Memref sig .tc .vmem S16x16 .f32) (harg7 : arg7.IsWhole)
      (arg8 : Memref sig .tc .vmem S16x16 .f32) (harg8 : arg8.IsWhole) (arg9 : Memref sig .tc .vmem S16x16x64x128 .f32) (harg9 : arg9.IsWhole)
      (arg10 : Memref sig .tc .vmem S16x16x64x128 .f32) (harg10 : arg10.IsWhole) (arg11 : DmaSems sig S16) (arg12 : DmaSems sig S16)
      (arg13 : DmaSems sig S2) (arg14 : DmaSems sig S2), α

/-- A part of the body at the region's buffers: the three windows' stages `a0`, `a3`, `a4` and the fixed operands. -/
abbrev at_ {α : Type 1} (a0 : Memref sig .tc .vmem S16x1x16x64 .f32) (h0 : a0.IsWhole) (a3 : Memref sig .tc .vmem S16x128x1 .i32) (h3 : a3.IsWhole)
    (a4 : Memref sig .tc .vmem S16x1x16x64 .f32) (h4 : a4.IsWhole)
    (f : PartTy α) : α :=
  f a0 h0 kH (Memref.isWhole_whole _) vH (Memref.isWhole_whole _) a3 h3 a4 h4 oM (Memref.isWhole_whole _) oR (Memref.isWhole_whole _)
    lM (Memref.isWhole_whole _) lR (Memref.isWhole_whole _) kB (Memref.isWhole_whole _) vB (Memref.isWhole_whole _)
    cc0_scratch6 cc0_scratch7 cc0_scratch8 cc0_scratch9

/-- The device's coordinate along the axis the pages are split over, as the kernel computes it. -/
abbrev yW (c : Dev nD) : BitVec 32 := Scalar.remsi (Scalar.divsi (Dev.word c) 4#32) 2#32

section

variable (a0 : Memref sig .tc .vmem S16x1x16x64 .f32) (h0 : a0.IsWhole) (a3 : Memref sig .tc .vmem S16x128x1 .i32) (h3 : a3.IsWhole)
  (a4 : Memref sig .tc .vmem S16x1x16x64 .f32) (h4 : a4.IsWhole)
variable (oV : Dev nD → S16x16x64.Idx → Elt F .f32) (lV : Dev nD → S16x16.Idx → Elt F .f32)
variable (c : Dev nD) (K : GSem nD τ sig → ℕ)
variable (ks : Buf (Elt F) (kH.view.loc (c : Thread nD τ))) (vs : Buf (Elt F) (vH.view.loc (c : Thread nD τ)))

/-- The key rows and the value rows of a device. -/
abbrev kRows (w e : ℕ) : sProp 𝕄 := rows kH kB cc0_scratch6 c fullShare ks w e
abbrev vRows (w e : ℕ) : sProp 𝕄 := rows vH vB cc0_scratch7 c fullShare vs w e

/-- What the meeting takes. -/
def meetPre : sProp 𝕄 :=
  iprop(invs oV lV K c ∗ levAts L lv ∗ atPos ER (cell c .bar) 0 ∅ 0 ∗ cred (tallyAt (cell c .bar) () 1)
    ∗ reached ER (cell (pr c) .bar) 0 ∗ dutyTok ER (cell (pr c) .bar) 0 ()
    ∗ (reached ER (cell c .r0) 0 ∗ reached ER (cell c .r1) 0) ∗ ((∃ f, bpt oR c fullShare f) ∗ (∃ f, bpt lR c fullShare f))
    ∗ ∃ W, owes (c : Thread nD τ) (O₀ c) W)

/-- What it leaves. -/
def meetPost : sProp 𝕄 :=
  iprop((reached ER (cell (pr c) .r0) 0 ∗ reached ER (cell (pr c) .r1) 0)
    ∗ ((∃ f, bpt oR (pr c) fullShare f) ∗ (∃ f, bpt lR (pr c) fullShare f))
    ∗ atPos ER (cell c .bar) (0 + 1) ∅ 0 ∗ ∃ W, owes (c : Thread nD τ) (O₁ c) W)

theorem part1_run {Q : (Σ' (d0 : Dev nD) (v2 : BitVec 32) (v5 : BitVec 32) (v8 : BitVec 32), BitVec 32) → sProp (MT nD τ sig Unit (Elt F) ℕ UU ℕ)} :
    iprop(meetPre oV lV c K ∗ kRows c ks 0 0
        ∗ (∀ v2 v8 v9, (meetPost c ∗ kRows c ks 0 1) -∗ Q ⟨c, v2, yW c, v8, v9⟩))
      ⊢ wp frame (wpE (defs₀ (F := F)) 𝒱₀ (c : Thread nD τ) none) Set.univ (at_ a0 h0 a3 h3 a4 h4 (k0_part1 (F := F))) Q := by
  rw [show at_ a0 h0 a3 h3 a4 h4 (k0_part1 (F := F)) = at_ a0 h0 a3 h3 a4 h4 (k0_part1_skel (F := F)) from rfl]
  unfold meetPre invs
  iintro ⟨⟨⟨#HIb, -, -, -, -, #HIbP, -, -⟩, #Hlev, HatB, HcB, #HrP, HtP, ⟨#Hr0, #Hr1⟩, ⟨HoR, HlR⟩, ⟨%W, HO⟩⟩, HK, Hk⟩
  unfold at_ k0_part1_skel
  simp only [semSignalWord, semWaitWord, Prog.lift, Prog.bind_op, Prog.bind_ret, Prog.pure_eq_ret, wp_deviceId]
  iapply (Rounds.wp_signal 𝒱₀ ER (sched oV lV) (c : Thread nD τ) none (dst := (pr c : Thread nD τ)) (sem := barS) (r := 0) (d := ())
      (κ := K (cell (pr c) .bar)) (mem_duties oV lV (pr c) .bar) (amount_cell oV lV (pr c) .bar ()) () (O₁ c) rfl)
    $$ [HO HtP HoR HlR]
  · isplitr; · iexact HIbP
    isplitl [HO]; · iexact HO
    isplitl [HtP]; · iexact HtP
    isplitl [HoR HlR]
    · iapply (Entails.of_eq (payload_cell oV lV (pr c) .bar ()).symm)
      unfold pay; rw [pr_pr]
      isplitl [HoR]; · iexact HoR
      isplitl [HlR]; · iexact HlR
      isplitr; · iexact Hr0
      iexact Hr1
    · iexact HrP
  iintro HO
  iapply (Rounds.wp_wait_rest_token 𝒱₀ ER (sched oV lV) (c : Thread nD τ) none (κ := K (cell c .bar))
      (wpE_semWait_eq 𝒱₀ (c : Thread nD τ) none Set.univ) (Set.mem_univ _) () (O := O₁ c) (W := W) (R := 0) (m := 0) (T := ∅)
      ((Nat.zero_add 1).trans (expect_cell oV lV c .bar).symm)) $$ [HcB HO HatB]
  · isplitr; · iexact HIb
    isplitl [HcB]; · iexact HcB
    isplitl [HO]; · iexact HO
    isplitr; · iapply (mayWait_below c (.reg barS) (by decide) (by decide)); iexact Hlev
    iexact HatB
  iintro ⟨HO, HatB, -, Hpay⟩
  ihave Hp := (Entails.of_eq (rest_cell oV lV c .bar)) $$ Hpay
  unfold pay
  icases Hp with ⟨HoR, HlR, #Hr0P, #Hr1P⟩
  iapply rows_enqueue $$ HK
  iintro HK
  rw [wp_ret]
  imodintro
  iapply Hk
  unfold meetPost
  isplitr [HK]
  · isplitr
    · isplitr; · iexact Hr0P
      iexact Hr1P
    isplitl [HoR HlR]
    · isplitl [HoR] <;> iassumption
    isplitl [HatB]; · iexact HatB
    iexists _
    iexact HO
  iexact HK

set_option maxHeartbeats 4000000 in
/-- The copies of the key rows 1 to 15 and the value rows 0 to 14. -/
theorem parts2to9_run {Q : PUnit → sProp (MT nD τ sig Unit (Elt F) ℕ UU ℕ)} :
    iprop(kRows c ks 0 1 ∗ vRows c vs 0 0 ∗ ((kRows c ks 0 16 ∗ vRows c vs 0 15) -∗ Q ⟨⟩))
      ⊢ wp frame (wpE (defs₀ (F := F)) 𝒱₀ (c : Thread nD τ) none) Set.univ (at_ a0 h0 a3 h3 a4 h4 (k0_part2 (F := F))) fun _ =>
        wp frame (wpE (defs₀ (F := F)) 𝒱₀ (c : Thread nD τ) none) Set.univ (at_ a0 h0 a3 h3 a4 h4 (k0_part3 (F := F))) fun _ =>
        wp frame (wpE (defs₀ (F := F)) 𝒱₀ (c : Thread nD τ) none) Set.univ (at_ a0 h0 a3 h3 a4 h4 (k0_part4 (F := F))) fun _ =>
        wp frame (wpE (defs₀ (F := F)) 𝒱₀ (c : Thread nD τ) none) Set.univ (at_ a0 h0 a3 h3 a4 h4 (k0_part5 (F := F))) fun _ =>
        wp frame (wpE (defs₀ (F := F)) 𝒱₀ (c : Thread nD τ) none) Set.univ (at_ a0 h0 a3 h3 a4 h4 (k0_part6 (F := F))) fun _ =>
        wp frame (wpE (defs₀ (F := F)) 𝒱₀ (c : Thread nD τ) none) Set.univ (at_ a0 h0 a3 h3 a4 h4 (k0_part7 (F := F))) fun _ =>
        wp frame (wpE (defs₀ (F := F)) 𝒱₀ (c : Thread nD τ) none) Set.univ (at_ a0 h0 a3 h3 a4 h4 (k0_part8 (F := F))) fun _ =>
        wp frame (wpE (defs₀ (F := F)) 𝒱₀ (c : Thread nD τ) none) Set.univ (at_ a0 h0 a3 h3 a4 h4 (k0_part9 (F := F))) Q := by
  unfold at_
  iintro ⟨HK, HV, Hk⟩
  rw [k0_part2_eq_skeleton]; unfold k0_part2_skel
  simp only [Prog.lift, Prog.bind_op, Prog.bind_ret, Prog.pure_eq_ret]
  iterate 2 (iapply rows_enqueue $$ HV; iintro HV; iapply rows_enqueue $$ HK; iintro HK)
  rw [wp_ret]; imodintro
  rw [k0_part3_eq_skeleton]; unfold k0_part3_skel
  simp only [Prog.lift, Prog.bind_op, Prog.bind_ret, Prog.pure_eq_ret]
  iterate 2 (iapply rows_enqueue $$ HV; iintro HV; iapply rows_enqueue $$ HK; iintro HK)
  rw [wp_ret]; imodintro
  rw [k0_part4_eq_skeleton]; unfold k0_part4_skel
  simp only [Prog.lift, Prog.bind_op, Prog.bind_ret, Prog.pure_eq_ret]
  iapply rows_enqueue $$ HV; iintro HV; iapply rows_enqueue $$ HK; iintro HK; iapply rows_enqueue $$ HV; iintro HV
  rw [wp_ret]; imodintro
  rw [k0_part5_eq_skeleton]; unfold k0_part5_skel
  simp only [Prog.lift, Prog.bind_op, Prog.bind_ret, Prog.pure_eq_ret]
  iterate 2 (iapply rows_enqueue $$ HK; iintro HK; iapply rows_enqueue $$ HV; iintro HV)
  rw [wp_ret]; imodintro
  rw [k0_part6_eq_skeleton]; unfold k0_part6_skel
  simp only [Prog.lift, Prog.bind_op, Prog.bind_ret, Prog.pure_eq_ret]
  iterate 2 (iapply rows_enqueue $$ HK; iintro HK; iapply rows_enqueue $$ HV; iintro HV)
  rw [wp_ret]; imodintro
  rw [k0_part7_eq_skeleton]; unfold k0_part7_skel
  simp only [Prog.lift, Prog.bind_op, Prog.bind_ret, Prog.pure_eq_ret]
  iterate 2 (iapply rows_enqueue $$ HK; iintro HK; iapply rows_enqueue $$ HV; iintro HV)
  rw [wp_ret]; imodintro
  rw [k0_part8_eq_skeleton]; unfold k0_part8_skel
  simp only [Prog.lift, Prog.bind_op, Prog.bind_ret, Prog.pure_eq_ret]
  iapply rows_enqueue $$ HK; iintro HK; iapply rows_enqueue $$ HV; iintro HV; iapply rows_enqueue $$ HK; iintro HK
  rw [wp_ret]; imodintro
  rw [k0_part9_eq_skeleton]; unfold k0_part9_skel
  simp only [Prog.lift, Prog.bind_op, Prog.bind_ret, Prog.pure_eq_ret]
  iterate 2 (iapply rows_enqueue $$ HV; iintro HV; iapply rows_enqueue $$ HK; iintro HK)
  rw [wp_ret]; imodintro
  iapply Hk
  isplitl [HK] <;> iassumption

end

end Cert.PagedAttn

end
-- ==== Proof.BodyTokens.lean ====
/-
  The middle of the kernel's body: page weights and queries, then the sixteen in-page tokens, each adding one term to the
  partial normaliser and to the partial output.
-/
module

public import proofs.«01_k».proof.Proof.BodyEnter

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev qB : Memref sig .tc .vmem S16x1x16x64 .f32 := Memref.whole cc0_stg0_0
abbrev bB : Memref sig .tc .vmem S16x128x1 .i32 := Memref.whole cc0_stg1_0
abbrev uB : Memref sig .tc .vmem S16x1x16x64 .f32 := Memref.whole cc0_stg2_0

theorem zero2 : (![0, 0] : Fin 2 → ℕ) = fun _ => 0 := funext fun a => by fin_cases a <;> rfl
theorem zero3 : (![0, 0, 0] : Fin 3 → ℕ) = fun _ => 0 := funext fun a => by fin_cases a <;> rfl
theorem zero4 : (![0, 0, 0, 0] : Fin 4 → ℕ) = fun _ => 0 := funext fun a => by fin_cases a <;> rfl

/-! ## Loads and stores of a buffer held whole -/

section

variable {s : Shape} {e : EltTy} {α : Type} {Q : α → sProp (MT nD τ sig Unit (Elt F) ℕ UU ℕ)}

theorem load_mem (m : Memref sig .tc .vmem s e) (r : Rect s) (c : Dev nD) {q : PosShare TreeShare} {f : Buf (Elt F) (m.view.loc (c : Thread nD τ))}
    (X : r.shape.Idx → Elt F e) (hX : (m.access r).read (Elt F) f = X) {hl : m.view.LoadsAt r.toLoadRect}
    {k : (r.shape.Idx → Elt F e) → Prog (TpuEff nD τ sig (Elt F) Λ₀ .tc) α} :
    bpt m c q f
      ⊢ iprop((bpt m c q f -∗ wp frame (wpE (defs₀ (F := F)) 𝒱₀ (c : Thread nD τ) none) Set.univ (k X) Q)
        -∗ wp frame (wpE (defs₀ (F := F)) 𝒱₀ (c : Thread nD τ) none) Set.univ (.op (.load m r.toLoadRect hl) k) Q) := by
  subst hX
  iintro H Hk
  iapply (wp_load_rect 𝒱₀ (c : Thread nD τ) none Set.univ (m := m) (r := r) (S := m.view.set) (View.set_slice_subset _ _)) $$ H
  iexact Hk

theorem store_mem (m : Memref sig .tc .vmem s e) (r : Rect s) (c : Dev nD) {f : Buf (Elt F) (m.view.loc (c : Thread nD τ))}
    {w : r.shape.Idx → Elt F e} (f' : Buf (Elt F) (m.view.loc (c : Thread nD τ))) (hf : (m.access r).write (Elt F) f w Finset.univ = f')
    {hx : (m.access r).Stores Finset.univ} {hm : Finset.univ = Finset.univ ∨ ∀ a, r.stride a = 1}
    {k : PUnit → Prog (TpuEff nD τ sig (Elt F) Λ₀ .tc) α} :
    bpt m c fullShare f
      ⊢ iprop((bpt m c fullShare f' -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  subst hf
  iintro H Hk
  iapply (wp_store 𝒱₀ (c : Thread nD τ) none Set.univ (m := m) (r := r) (Mk := Finset.univ) (S := m.view.set) (View.set_slice_subset _ _)) $$ H
  iexact Hk

end

/-! ## The accumulators -/

/-- Row `i` of a page buffer's contents. -/
def rowV {sp : Space} (b : Memref sig .tc sp S16x16x64x128 .f32) (c : Dev nD) (fs : Buf (Elt F) (b.view.loc (c : Thread nD τ))) (i : ℕ) :
    Vec F S1x16x64x128 .f32 :=
  if h : i < 16 then (b.access (rowR i (rowIn_of_lt h))).read (Elt F) fs else (b.access (rowR 0 (rowIn_of_lt (by decide)))).read (Elt F) fs

theorem rowV_eq {sp : Space} (b : Memref sig .tc sp S16x16x64x128 .f32) (c : Dev nD) (fs : Buf (Elt F) (b.view.loc (c : Thread nD τ))) {i : ℕ}
    (h : RowIn i) : (b.access (rowR i h)).read (Elt F) fs = rowV b c fs i := by
  unfold rowV; rw [dif_pos (lt_of_rowIn h)]

/-- The normaliser after `n` tokens. -/
def lAcc (w : FVec F S1x16x128 .f32) (q : FVec F S16x16x64 .f32) (kr : ℕ → Vec F S1x16x64x128 .f32) : ℕ → FVec F S16x16x1 .f32
  | 0 => k0_pay4
  | n + 1 => k0_pay6 w q (lAcc w q kr n) (kr n)

/-- The output after `n` tokens. -/
def oAcc (w : FVec F S1x16x128 .f32) (q : FVec F S16x16x64 .f32) (kr vr : ℕ → Vec F S1x16x64x128 .f32) : ℕ → FVec F S16x16x64 .f32
  | 0 => k0_pay3
  | n + 1 => k0_pay7 w q (oAcc w q kr vr n) (kr n) (vr n)

section

variable (c : Dev nD)
variable (ks : Buf (Elt F) (kH.view.loc (c : Thread nD τ))) (vs : Buf (Elt F) (vH.view.loc (c : Thread nD τ)))

/-- Where the two buffers' copies stand once all are started, with what the device owes through all the waits for them. -/
def loopSt (wk wv : ℕ) : sProp 𝕄 :=
  iprop(levAts L lv ∗ kRows c ks wk 16 ∗ vRows c vs wv 16 ∗ ∃ W, owes (c : Thread nD τ) (O₁ c) W)

section

variable {α : Type} {Q : α → sProp (MT nD τ sig Unit (Elt F) ℕ UU ℕ)}

theorem loop_waitK {i wv : ℕ} {h : RowIn i} {h' : ∀ x, (![i] : Fin 1 → ℕ) x + S1.size x ≤ S16.size x}
    {hsrc : (rowM kH i h).view.WordExact} {hdst : (rowM kB i h).view.WordExact} {k : PUnit → Prog (TpuEff nD τ sig (Elt F) Λ₀ .tc) α}
    (h0 : (.dma (rowS cc0_scratch6 i h') : SemLoc sig) ≠ Role.r0.sm) (h1 : (.dma (rowS cc0_scratch6 i h') : SemLoc sig) ≠ Role.r1.sm) :
    loopSt c ks vs i wv
      ⊢ iprop((loopSt c ks vs (i + 1) wv -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (rowS cc0_scratch6 i h') (rowM kH i h) (rowM kB i h) hsrc hdst) k) Q) := by
  unfold loopSt
  iintro ⟨#Hl, HK, HV, HO⟩ Hk
  iapply (rows_wait (mayWait_below c _ h0 h1)) $$ [HK HO]
  · isplitr; · iexact Hl
    isplitl [HK] <;> iassumption
  iintro ⟨HK, HO⟩
  iapply Hk
  isplitr; · iexact Hl
  isplitl [HK]; · iexact HK
  isplitl [HV] <;> iassumption

theorem loop_waitV {i wk : ℕ} {h : RowIn i} {h' : ∀ x, (![i] : Fin 1 → ℕ) x + S1.size x ≤ S16.size x}
    {hsrc : (rowM vH i h).view.WordExact} {hdst : (rowM vB i h).view.WordExact} {k : PUnit → Prog (TpuEff nD τ sig (Elt F) Λ₀ .tc) α}
    (h0 : (.dma (rowS cc0_scratch7 i h') : SemLoc sig) ≠ Role.r0.sm) (h1 : (.dma (rowS cc0_scratch7 i h') : SemLoc sig) ≠ Role.r1.sm) :
    loopSt c ks vs wk i
      ⊢ iprop((loopSt c ks vs wk (i + 1) -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (rowS cc0_scratch7 i h') (rowM vH i h) (rowM vB i h) hsrc hdst) k) Q) := by
  unfold loopSt
  iintro ⟨#Hl, HK, HV, HO⟩ Hk
  iapply (rows_wait (mayWait_below c _ h0 h1)) $$ [HV HO]
  · isplitr; · iexact Hl
    isplitl [HV] <;> iassumption
  iintro ⟨HV, HO⟩
  iapply Hk
  isplitr; · iexact Hl
  isplitl [HK]; · iexact HK
  isplitl [HV] <;> iassumption

theorem loop_loadK {i wv : ℕ} {h : RowIn i} {hl : kB.view.LoadsAt (rowR i h).toLoadRect}
    {k : Vec F S1x16x64x128 .f32 → Prog (TpuEff nD τ sig (Elt F) Λ₀ .tc) α} :
    loopSt c ks vs (i + 1) wv
      ⊢ iprop((loopSt c ks vs (i + 1) wv -∗ wp frame (wpE (defs₀ (F := F)) 𝒱₀ (c : Thread nD τ) none) Set.univ (k (rowV kH c ks i)) Q)
        -∗ wp frame (wpE (defs₀ (F := F)) 𝒱₀ (c : Thread nD τ) none) Set.univ (.op (.load kB (rowR i h).toLoadRect hl) k) Q) := by
  unfold loopSt
  iintro ⟨#Hl, HK, HV, HO⟩ Hk
  iapply rows_load $$ HK
  iintro HK
  rw [rowV_eq]
  iapply Hk
  isplitr; · iexact Hl
  isplitl [HK]; · iexact HK
  isplitl [HV] <;> iassumption

theorem loop_loadV {i wk : ℕ} {h : RowIn i} {hl : vB.view.LoadsAt (rowR i h).toLoadRect}
    {k : Vec F S1x16x64x128 .f32 → Prog (TpuEff nD τ sig (Elt F) Λ₀ .tc) α} :
    loopSt c ks vs wk (i + 1)
      ⊢ iprop((loopSt c ks vs wk (i + 1) -∗ wp frame (wpE (defs₀ (F := F)) 𝒱₀ (c : Thread nD τ) none) Set.univ (k (rowV vH c vs i)) Q)
        -∗ wp frame (wpE (defs₀ (F := F)) 𝒱₀ (c : Thread nD τ) none) Set.univ (.op (.load vB (rowR i h).toLoadRect hl) k) Q) := by
  unfold loopSt
  iintro ⟨#Hl, HK, HV, HO⟩ Hk
  iapply rows_load $$ HV
  iintro HV
  rw [rowV_eq]
  iapply Hk
  isplitr; · iexact Hl
  isplitl [HK]; · iexact HK
  isplitl [HV] <;> iassumption

end

/-! ## The parts of the body, one token or so each -/

variable (w : FVec F S1x16x128 .f32) (q : FVec F S16x16x64 .f32)

/-- A device's accumulators, off its own key and value rows. -/
abbrev lA (n : ℕ) : FVec F S16x16x1 .f32 := lAcc w q (rowV kH c ks) n
abbrev oA (n : ℕ) : FVec F S16x16x64 .f32 := oAcc w q (rowV kH c ks) (rowV vH c vs) n

/-- A part of the body at the region's buffers, the windows' stages included. -/
abbrev atw {α : Type 1} (f : PartTy α) : α := at_ qB (Memref.isWhole_whole _) bB (Memref.isWhole_whole _) uB (Memref.isWhole_whole _) f

/-- A program of the kernel's core on device `c`. -/
abbrev wpC {α : Type} (p : Prog (TpuEff nD τ sig (Elt F) Λ₀ .tc) α) (Q : α → sProp (MT nD τ sig Unit (Elt F) ℕ UU ℕ)) : sProp 𝕄 :=
  wp frame (wpE (defs₀ (F := F)) 𝒱₀ (c : Thread nD τ) none) Set.univ p Q

theorem part10_run {Q : _ → sProp (MT nD τ sig Unit (Elt F) ℕ UU ℕ)} {sq sb : PosShare TreeShare} (y : BitVec 32)
    (qv : S16x1x16x64.Idx → Elt F .f32) (bv : S16x128x1.Idx → Elt F .i32) :
    iprop((levAts L lv ∗ kRows c ks 0 16 ∗ vRows c vs 0 15 ∗ ∃ W, owes (c : Thread nD τ) (O₁ c) W)
        ∗ (bpt qB c sq qv ∗ bpt bB c sb bv)
        ∗ ((loopSt c ks vs 1 0 ∗ bpt qB c sq qv ∗ bpt bB c sb bv) -∗
            Q ⟨k0_pay1 y bv, k0_pay2 qv, oA c ks vs (k0_pay1 y bv) (k0_pay2 qv) 0, lA c ks (k0_pay1 y bv) (k0_pay2 qv) 0⟩))
      ⊢ wp frame (wpE (defs₀ (F := F)) 𝒱₀ (c : Thread nD τ) none) Set.univ (atw (k0_part10 (F := F)) y) Q := by
  rw [show lA c ks (k0_pay1 y bv) (k0_pay2 qv) 0 = k0_pay4 from rfl, show oA c ks vs (k0_pay1 y bv) (k0_pay2 qv) 0 = k0_pay3 from rfl]
  unfold atw at_
  iintro ⟨⟨Hl, HK, HV, HO⟩, ⟨Hq, Hb⟩, Hk⟩
  rw [k0_part10_eq_skeleton]; unfold k0_part10_skel
  simp only [Prog.lift, Prog.bind_op, Prog.bind_ret, Prog.pure_eq_ret]
  iapply rows_enqueue $$ HV; iintro HV
  iapply (load_mem bB _ c bv (Memref.read_access_unit_zero _ cc0_stg1_0 zero3 _ bv)) $$ Hb; iintro Hb
  iapply (load_mem qB _ c qv (Memref.read_access_unit_zero _ cc0_stg0_0 zero4 _ qv)) $$ Hq; iintro Hq
  ihave H : loopSt c ks vs 0 0 $$ [Hl HK HV HO]
  · unfold loopSt
    isplitl [Hl]; · iexact Hl
    isplitl [HK]; · iexact HK
    isplitl [HV] <;> iassumption
  iapply (loop_waitK c ks vs (by decide) (by decide)) $$ H; iintro H
  rw [wp_ret]; imodintro
  iapply Hk
  isplitl [H]; · iexact H
  isplitl [Hq] <;> iassumption

theorem part11_run {Q : _ → sProp (MT nD τ sig Unit (Elt F) ℕ UU ℕ)} :
    iprop(loopSt c ks vs 1 0 ∗ (loopSt c ks vs 2 1 -∗ Q ⟨lA c ks w q 1, oA c ks vs w q 1⟩))
      ⊢ wpC c (atw (k0_part11 (F := F)) w q (oA c ks vs w q 0) (lA c ks w q 0)) Q := by
  rw [show lA c ks w q 1 = k0_pay6 w q (lA c ks w q 0) (rowV kH c ks 0) from rfl,
    show oA c ks vs w q 1 = k0_pay7 w q (oA c ks vs w q 0) (rowV kH c ks 0) (rowV vH c vs 0) from rfl]
  unfold wpC atw at_
  iintro ⟨H, Hk⟩
  rw [k0_part11_eq_skeleton]; unfold k0_part11_skel
  simp only [Prog.lift, Prog.bind_op, Prog.bind_ret, Prog.pure_eq_ret]
  iapply (loop_waitV c ks vs (by decide) (by decide)) $$ H; iintro H
  iapply (loop_loadK c ks vs) $$ H; iintro H
  iapply (loop_loadV c ks vs) $$ H; iintro H
  iapply (loop_waitK c ks vs (by decide) (by decide)) $$ H; iintro H
  rw [wp_ret]; imodintro
  iapply Hk
  iexact H

theorem part12_run {Q : _ → sProp (MT nD τ sig Unit (Elt F) ℕ UU ℕ)} :
    iprop(loopSt c ks vs 2 1 ∗ (loopSt c ks vs 3 2 -∗ Q ⟨lA c ks w q 2, oA c ks vs w q 2⟩))
      ⊢ wpC c (atw (k0_part12 (F := F)) w q (lA c ks w q 1) (oA c ks vs w q 1)) Q := by
  rw [show lA c ks w q 2 = k0_pay9 w q (lA c ks w q 1) (rowV kH c ks 1) from rfl,
    show oA c ks vs w q 2 = k0_pay10 w q (oA c ks vs w q 1) (rowV kH c ks 1) (rowV vH c vs 1) from rfl]
  unfold wpC atw at_
  iintro ⟨H, Hk⟩
  rw [k0_part12_eq_skeleton]; unfold k0_part12_skel
  simp only [Prog.lift, Prog.bind_op, Prog.bind_ret, Prog.pure_eq_ret]
  iapply (loop_waitV c ks vs (by decide) (by decide)) $$ H; iintro H
  iapply (loop_loadK c ks vs) $$ H; iintro H
  iapply (loop_loadV c ks vs) $$ H; iintro H
  iapply (loop_waitK c ks vs (by decide) (by decide)) $$ H; iintro H
  rw [wp_ret]; imodintro
  iapply Hk
  iexact H

theorem part13_run {Q : _ → sProp (MT nD τ sig Unit (Elt F) ℕ UU ℕ)} :
    iprop(loopSt c ks vs 3 2 ∗ (loopSt c ks vs 4 3 -∗ Q ⟨lA c ks w q 3, oA c ks vs w q 3⟩))
      ⊢ wpC c (atw (k0_part13 (F := F)) w q (lA c ks w q 2) (oA c ks vs w q 2)) Q := by
  rw [show lA c ks w q 3 = k0_pay12 w q (lA c ks w q 2) (rowV kH c ks 2) from rfl,
    show oA c ks vs w q 3 = k0_pay13 w q (oA c ks vs w q 2) (rowV kH c ks 2) (rowV vH c vs 2) from rfl]
  unfold wpC atw at_
  iintro ⟨H, Hk⟩
  rw [k0_part13_eq_skeleton]; unfold k0_part13_skel
  simp only [Prog.lift, Prog.bind_op, Prog.bind_ret, Prog.pure_eq_ret]
  iapply (loop_waitV c ks vs (by decide) (by decide)) $$ H; iintro H
  iapply (loop_loadK c ks vs) $$ H; iintro H
  iapply (loop_loadV c ks vs) $$ H; iintro H
  iapply (loop_waitK c ks vs (by decide) (by decide)) $$ H; iintro H
  rw [wp_ret]; imodintro
  iapply Hk
  iexact H

theorem part14_run {Q : _ → sProp (MT nD τ sig Unit (Elt F) ℕ UU ℕ)} :
    iprop(loopSt c ks vs 4 3 ∗ (loopSt c ks vs 5 5 -∗ Q ⟨lA c ks w q 4, oA c ks vs w q 4⟩))
      ⊢ wpC c (atw (k0_part14 (F := F)) w q (lA c ks w q 3) (oA c ks vs w q 3)) Q := by
  rw [show lA c ks w q 4 = k0_pay15 w q (lA c ks w q 3) (rowV kH c ks 3) from rfl,
    show oA c ks vs w q 4 = k0_pay16 w q (oA c ks vs w q 3) (rowV kH c ks 3) (rowV vH c vs 3) from rfl]
  unfold wpC atw at_
  iintro ⟨H, Hk⟩
  rw [k0_part14_eq_skeleton]; unfold k0_part14_skel
  simp only [Prog.lift, Prog.bind_op, Prog.bind_ret, Prog.pure_eq_ret]
  iapply (loop_waitV c ks vs (by decide) (by decide)) $$ H; iintro H
  iapply (loop_loadK c ks vs) $$ H; iintro H
  iapply (loop_loadV c ks vs) $$ H; iintro H
  iapply (loop_waitK c ks vs (by decide) (by decide)) $$ H; iintro H
  iapply (loop_waitV c ks vs (by decide) (by decide)) $$ H; iintro H
  rw [wp_ret]; imodintro
  iapply Hk
  iexact H

theorem part15_run {Q : _ → sProp (MT nD τ sig Unit (Elt F) ℕ UU ℕ)} :
    iprop(loopSt c ks vs 5 5 ∗ (loopSt c ks vs 6 6 -∗ Q ⟨lA c ks w q 5, oA c ks vs w q 5, k0_pay20 (rowV kH c ks 5)⟩))
      ⊢ wpC c (atw (k0_part15 (F := F)) w q (lA c ks w q 4) (oA c ks vs w q 4)) Q := by
  rw [show lA c ks w q 5 = k0_pay18 w q (lA c ks w q 4) (rowV kH c ks 4) from rfl,
    show oA c ks vs w q 5 = k0_pay19 w q (oA c ks vs w q 4) (rowV kH c ks 4) (rowV vH c vs 4) from rfl]
  unfold wpC atw at_
  iintro ⟨H, Hk⟩
  rw [k0_part15_eq_skeleton]; unfold k0_part15_skel
  simp only [Prog.lift, Prog.bind_op, Prog.bind_ret, Prog.pure_eq_ret]
  iapply (loop_loadK c ks vs) $$ H; iintro H
  iapply (loop_loadV c ks vs) $$ H; iintro H
  iapply (loop_waitK c ks vs (by decide) (by decide)) $$ H; iintro H
  iapply (loop_waitV c ks vs (by decide) (by decide)) $$ H; iintro H
  iapply (loop_loadK c ks vs) $$ H; iintro H
  rw [wp_ret]; imodintro
  iapply Hk
  iexact H

theorem part16_run {Q : _ → sProp (MT nD τ sig Unit (Elt F) ℕ UU ℕ)} :
    iprop(loopSt c ks vs 6 6 ∗ (loopSt c ks vs 7 7 -∗ Q ⟨lA c ks w q 6, oA c ks vs w q 6, k0_pay24 (rowV kH c ks 6), rowV vH c vs 6⟩))
      ⊢ wpC c (atw (k0_part16 (F := F)) w q (lA c ks w q 5) (oA c ks vs w q 5) (k0_pay20 (rowV kH c ks 5))) Q := by
  rw [show lA c ks w q 6 = k0_pay22 w q (lA c ks w q 5) (k0_pay20 (rowV kH c ks 5)) from rfl,
    show oA c ks vs w q 6 = k0_pay23 w q (oA c ks vs w q 5) (k0_pay20 (rowV kH c ks 5)) (rowV vH c vs 5) from rfl]
  unfold wpC atw at_
  iintro ⟨H, Hk⟩
  rw [k0_part16_eq_skeleton]; unfold k0_part16_skel
  simp only [Prog.lift, Prog.bind_op, Prog.bind_ret, Prog.pure_eq_ret]
  iapply (loop_loadV c ks vs) $$ H; iintro H
  iapply (loop_waitK c ks vs (by decide) (by decide)) $$ H; iintro H
  iapply (loop_waitV c ks vs (by decide) (by decide)) $$ H; iintro H
  iapply (loop_loadK c ks vs) $$ H; iintro H
  iapply (loop_loadV c ks vs) $$ H; iintro H
  rw [wp_ret]; imodintro
  iapply Hk
  iexact H

theorem part17_run {Q : _ → sProp (MT nD τ sig Unit (Elt F) ℕ UU ℕ)} :
    iprop(loopSt c ks vs 7 7 ∗ (loopSt c ks vs 8 8 -∗ Q ⟨lA c ks w q 7, oA c ks vs w q 7, k0_pay28 (rowV vH c vs 7), k0_pay29 q (rowV kH c ks 7)⟩))
      ⊢ wpC c (atw (k0_part17 (F := F)) w q (lA c ks w q 6) (oA c ks vs w q 6) (k0_pay24 (rowV kH c ks 6)) (rowV vH c vs 6)) Q := by
  rw [show lA c ks w q 7 = k0_pay26 w q (lA c ks w q 6) (k0_pay24 (rowV kH c ks 6)) from rfl,
    show oA c ks vs w q 7 = k0_pay27 w q (oA c ks vs w q 6) (k0_pay24 (rowV kH c ks 6)) (rowV vH c vs 6) from rfl]
  unfold wpC atw at_
  iintro ⟨H, Hk⟩
  rw [k0_part17_eq_skeleton]; unfold k0_part17_skel
  simp only [Prog.lift, Prog.bind_op, Prog.bind_ret, Prog.pure_eq_ret]
  iapply (loop_waitK c ks vs (by decide) (by decide)) $$ H; iintro H
  iapply (loop_waitV c ks vs (by decide) (by decide)) $$ H; iintro H
  iapply (loop_loadK c ks vs) $$ H; iintro H
  iapply (loop_loadV c ks vs) $$ H; iintro H
  rw [wp_ret]; imodintro
  iapply Hk
  iexact H

theorem part18_run {Q : _ → sProp (MT nD τ sig Unit (Elt F) ℕ UU ℕ)} :
    iprop(loopSt c ks vs 8 8 ∗ (loopSt c ks vs 9 9 -∗ Q ⟨lA c ks w q 8, oA c ks vs w q 8, k0_pay33 (rowV vH c vs 8), k0_pay34 w q (rowV kH c ks 8), k0_pay35 w q (rowV kH c ks 8)⟩))
      ⊢ wpC c (atw (k0_part18 (F := F)) w q (lA c ks w q 7) (oA c ks vs w q 7) (k0_pay28 (rowV vH c vs 7)) (k0_pay29 q (rowV kH c ks 7))) Q := by
  rw [show lA c ks w q 8 = k0_pay31 w (lA c ks w q 7) (k0_pay29 q (rowV kH c ks 7)) from rfl,
    show oA c ks vs w q 8 = k0_pay32 w (oA c ks vs w q 7) (k0_pay28 (rowV vH c vs 7)) (k0_pay29 q (rowV kH c ks 7)) from rfl]
  unfold wpC atw at_
  iintro ⟨H, Hk⟩
  rw [k0_part18_eq_skeleton]; unfold k0_part18_skel
  simp only [Prog.lift, Prog.bind_op, Prog.bind_ret, Prog.pure_eq_ret]
  iapply (loop_waitK c ks vs (by decide) (by decide)) $$ H; iintro H
  iapply (loop_waitV c ks vs (by decide) (by decide)) $$ H; iintro H
  iapply (loop_loadK c ks vs) $$ H; iintro H
  iapply (loop_loadV c ks vs) $$ H; iintro H
  rw [wp_ret]; imodintro
  iapply Hk
  iexact H

theorem part19_run {Q : _ → sProp (MT nD τ sig Unit (Elt F) ℕ UU ℕ)} :
    iprop(loopSt c ks vs 9 9 ∗ (loopSt c ks vs 10 10 -∗ Q ⟨oA c ks vs w q 9, lA c ks w q 10, k0_pay39 w q (rowV kH c ks 9) (rowV vH c vs 9)⟩))
      ⊢ wpC c (atw (k0_part19 (F := F)) w q (lA c ks w q 8) (oA c ks vs w q 8) (k0_pay33 (rowV vH c vs 8)) (k0_pay34 w q (rowV kH c ks 8)) (k0_pay35 w q (rowV kH c ks 8))) Q := by
  rw [show oA c ks vs w q 9 = k0_pay36 (oA c ks vs w q 8) (k0_pay33 (rowV vH c vs 8)) (k0_pay34 w q (rowV kH c ks 8)) from rfl,
    show lA c ks w q 10 = k0_pay38 w q (lA c ks w q 8) (k0_pay35 w q (rowV kH c ks 8)) (rowV kH c ks 9) from rfl]
  unfold wpC atw at_
  iintro ⟨H, Hk⟩
  rw [k0_part19_eq_skeleton]; unfold k0_part19_skel
  simp only [Prog.lift, Prog.bind_op, Prog.bind_ret, Prog.pure_eq_ret]
  iapply (loop_waitK c ks vs (by decide) (by decide)) $$ H; iintro H
  iapply (loop_waitV c ks vs (by decide) (by decide)) $$ H; iintro H
  iapply (loop_loadK c ks vs) $$ H; iintro H
  iapply (loop_loadV c ks vs) $$ H; iintro H
  rw [wp_ret]; imodintro
  iapply Hk
  iexact H

theorem part20_run {Q : _ → sProp (MT nD τ sig Unit (Elt F) ℕ UU ℕ)} :
    iprop(loopSt c ks vs 10 10 ∗ (loopSt c ks vs 11 11 -∗ Q ⟨lA c ks w q 11, oA c ks vs w q 11⟩))
      ⊢ wpC c (atw (k0_part20 (F := F)) w q (oA c ks vs w q 9) (lA c ks w q 10) (k0_pay39 w q (rowV kH c ks 9) (rowV vH c vs 9))) Q := by
  rw [show lA c ks w q 11 = k0_pay41 w q (lA c ks w q 10) (rowV kH c ks 10) from rfl,
    show oA c ks vs w q 11 = k0_pay42 w q (oA c ks vs w q 9) (k0_pay39 w q (rowV kH c ks 9) (rowV vH c vs 9)) (rowV kH c ks 10) (rowV vH c vs 10) from rfl]
  unfold wpC atw at_
  iintro ⟨H, Hk⟩
  rw [k0_part20_eq_skeleton]; unfold k0_part20_skel
  simp only [Prog.lift, Prog.bind_op, Prog.bind_ret, Prog.pure_eq_ret]
  iapply (loop_waitK c ks vs (by decide) (by decide)) $$ H; iintro H
  iapply (loop_waitV c ks vs (by decide) (by decide)) $$ H; iintro H
  iapply (loop_loadK c ks vs) $$ H; iintro H
  iapply (loop_loadV c ks vs) $$ H; iintro H
  rw [wp_ret]; imodintro
  iapply Hk
  iexact H

theorem part21_run {Q : _ → sProp (MT nD τ sig Unit (Elt F) ℕ UU ℕ)} :
    iprop(loopSt c ks vs 11 11 ∗ (loopSt c ks vs 12 12 -∗ Q ⟨lA c ks w q 12, oA c ks vs w q 12⟩))
      ⊢ wpC c (atw (k0_part21 (F := F)) w q (lA c ks w q 11) (oA c ks vs w q 11)) Q := by
  rw [show lA c ks w q 12 = k0_pay44 w q (lA c ks w q 11) (rowV kH c ks 11) from rfl,
    show oA c ks vs w q 12 = k0_pay45 w q (oA c ks vs w q 11) (rowV kH c ks 11) (rowV vH c vs 11) from rfl]
  unfold wpC atw at_
  iintro ⟨H, Hk⟩
  rw [k0_part21_eq_skeleton]; unfold k0_part21_skel
  simp only [Prog.lift, Prog.bind_op, Prog.bind_ret, Prog.pure_eq_ret]
  iapply (loop_waitK c ks vs (by decide) (by decide)) $$ H; iintro H
  iapply (loop_waitV c ks vs (by decide) (by decide)) $$ H; iintro H
  iapply (loop_loadK c ks vs) $$ H; iintro H
  iapply (loop_loadV c ks vs) $$ H; iintro H
  rw [wp_ret]; imodintro
  iapply Hk
  iexact H

theorem part22_run {Q : _ → sProp (MT nD τ sig Unit (Elt F) ℕ UU ℕ)} :
    iprop(loopSt c ks vs 12 12 ∗ (loopSt c ks vs 13 13 -∗ Q ⟨lA c ks w q 13, oA c ks vs w q 13⟩))
      ⊢ wpC c (atw (k0_part22 (F := F)) w q (lA c ks w q 12) (oA c ks vs w q 12)) Q := by
  rw [show lA c ks w q 13 = k0_pay47 w q (lA c ks w q 12) (rowV kH c ks 12) from rfl,
    show oA c ks vs w q 13 = k0_pay48 w q (oA c ks vs w q 12) (rowV kH c ks 12) (rowV vH c vs 12) from rfl]
  unfold wpC atw at_
  iintro ⟨H, Hk⟩
  rw [k0_part22_eq_skeleton]; unfold k0_part22_skel
  simp only [Prog.lift, Prog.bind_op, Prog.bind_ret, Prog.pure_eq_ret]
  iapply (loop_waitK c ks vs (by decide) (by decide)) $$ H; iintro H
  iapply (loop_waitV c ks vs (by decide) (by decide)) $$ H; iintro H
  iapply (loop_loadK c ks vs) $$ H; iintro H
  iapply (loop_loadV c ks vs) $$ H; iintro H
  rw [wp_ret]; imodintro
  iapply Hk
  iexact H

theorem part23_run {Q : _ → sProp (MT nD τ sig Unit (Elt F) ℕ UU ℕ)} :
    iprop(loopSt c ks vs 13 13 ∗ (loopSt c ks vs 14 14 -∗ Q ⟨lA c ks w q 14, oA c ks vs w q 14⟩))
      ⊢ wpC c (atw (k0_part23 (F := F)) w q (lA c ks w q 13) (oA c ks vs w q 13)) Q := by
  rw [show lA c ks w q 14 = k0_pay50 w q (lA c ks w q 13) (rowV kH c ks 13) from rfl,
    show oA c ks vs w q 14 = k0_pay51 w q (oA c ks vs w q 13) (rowV kH c ks 13) (rowV vH c vs 13) from rfl]
  unfold wpC atw at_
  iintro ⟨H, Hk⟩
  rw [k0_part23_eq_skeleton]; unfold k0_part23_skel
  simp only [Prog.lift, Prog.bind_op, Prog.bind_ret, Prog.pure_eq_ret]
  iapply (loop_waitK c ks vs (by decide) (by decide)) $$ H; iintro H
  iapply (loop_waitV c ks vs (by decide) (by decide)) $$ H; iintro H
  iapply (loop_loadK c ks vs) $$ H; iintro H
  iapply (loop_loadV c ks vs) $$ H; iintro H
  rw [wp_ret]; imodintro
  iapply Hk
  iexact H

theorem part24_run {Q : _ → sProp (MT nD τ sig Unit (Elt F) ℕ UU ℕ)} :
    iprop(loopSt c ks vs 14 14 ∗ (loopSt c ks vs 16 15 -∗ Q ⟨lA c ks w q 15, oA c ks vs w q 15⟩))
      ⊢ wpC c (atw (k0_part24 (F := F)) w q (lA c ks w q 14) (oA c ks vs w q 14)) Q := by
  rw [show lA c ks w q 15 = k0_pay53 w q (lA c ks w q 14) (rowV kH c ks 14) from rfl,
    show oA c ks vs w q 15 = k0_pay54 w q (oA c ks vs w q 14) (rowV kH c ks 14) (rowV vH c vs 14) from rfl]
  unfold wpC atw at_
  iintro ⟨H, Hk⟩
  rw [k0_part24_eq_skeleton]; unfold k0_part24_skel
  simp only [Prog.lift, Prog.bind_op, Prog.bind_ret, Prog.pure_eq_ret]
  iapply (loop_waitK c ks vs (by decide) (by decide)) $$ H; iintro H
  iapply (loop_waitV c ks vs (by decide) (by decide)) $$ H; iintro H
  iapply (loop_loadK c ks vs) $$ H; iintro H
  iapply (loop_loadV c ks vs) $$ H; iintro H
  iapply (loop_waitK c ks vs (by decide) (by decide)) $$ H; iintro H
  rw [wp_ret]; imodintro
  iapply Hk
  iexact H

/-- What a device sends: its partial output, and its partial normaliser with tokens leading. -/
def oSend : S16x16x64.Idx → Elt F .f32 := k0_pay56 w q (oA c ks vs w q 15) (rowV kH c ks 15) (rowV vH c vs 15)
def lSend : S16x16.Idx → Elt F .f32 := k0_pay57 w q (lA c ks w q 15) (rowV kH c ks 15)

theorem part25_run {Q : _ → sProp (MT nD τ sig Unit (Elt F) ℕ UU ℕ)} (v2 v9 : BitVec 32) :
    iprop(loopSt c ks vs 16 15 ∗ ((∃ f, bpt oM c fullShare f) ∗ (∃ f, bpt lM c fullShare f))
        ∗ (∀ r, (loopSt c ks vs 16 16 ∗ bpt oM c fullShare (oSend c ks vs w q) ∗ bpt lM c fullShare (lSend c ks w q)) -∗ Q r))
      ⊢ wpC c (atw (k0_part25 (F := F)) v2 v9 w q (lA c ks w q 15) (oA c ks vs w q 15)) Q := by
  unfold wpC atw at_
  iintro ⟨H, ⟨⟨%fo, Ho⟩, ⟨%fl, Hn⟩⟩, Hk⟩
  rw [k0_part25_eq_skeleton]; unfold k0_part25_skel
  simp only [Prog.lift, Prog.bind_op, Prog.bind_ret, Prog.pure_eq_ret]
  iapply (loop_waitV c ks vs (by decide) (by decide)) $$ H; iintro H
  iapply (loop_loadK c ks vs) $$ H; iintro H
  iapply (loop_loadV c ks vs) $$ H; iintro H
  iapply (load_mem oM _ c _ rfl) $$ Ho; iintro Ho
  iapply (store_mem oM _ c (oSend c ks vs w q) (Memref.write_access_unit_zero_univ _ cc0_scratch0 zero3 _ _ _)) $$ Ho; iintro Ho
  iapply (load_mem lM _ c _ rfl) $$ Hn; iintro Hn
  iapply (store_mem lM _ c (lSend c ks w q) (Memref.write_access_unit_zero_univ _ cc0_scratch2 zero2 _ _ _)) $$ Hn; iintro Hn
  rw [wp_ret]; imodintro
  iapply Hk
  isplitl [H]; · iexact H
  isplitl [Ho] <;> iassumption

end

end Cert.PagedAttn

end
-- ==== Proof.BodyExchange.lean ====
/-
  The last third of the kernel's body: the two remote copies, the waits for the partner's, and the output, head by head.
-/
module

public import proofs.«01_k».proof.Proof.BodyTokens
public import Idealize.ShloMosaic.Lib.ValueIdxCore

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The output of one head -/

/-- Head `i` of a partial output fits, and a head of the output. -/
abbrev HeadIn (i : ℕ) : Prop := ∀ a, (![i, 0, 0] : Fin 3 → ℕ) a + S1x16x64.size a ≤ S16x16x64.size a
abbrev OutIn (i : ℕ) : Prop := ∀ a, (![0, 0, i, 0] : Fin 4 → ℕ) a + S16x1x1x64.size a ≤ S16x1x16x64.size a

abbrev headR (i : ℕ) (h : HeadIn i) : Rect S16x16x64 := Rect.unit (s := S16x16x64) ![i, 0, 0] S1x16x64.size h
abbrev outR (i : ℕ) (h : OutIn i) : Rect S16x1x16x64 := Rect.unit (s := S16x1x16x64) ![0, 0, i, 0] S16x1x1x64.size h

theorem lt_of_headIn {i : ℕ} (h : HeadIn i) : i < 16 := h 0
theorem lt_of_outIn {i : ℕ} (h : OutIn i) : i < 16 := h 2
theorem headIn_of_lt {i : ℕ} (h : i < 16) : HeadIn i := fun a => by
  fin_cases a
  · show i + 1 ≤ 16; omega
  all_goals exact le_of_eq rfl
theorem slices_of_lt {i : ℕ} (h : i < 16) : S16x16.Slices ![0, i] S16x1 := ⟨rfl, fun a => by
  fin_cases a
  · exact le_of_eq rfl
  · show i + 1 ≤ 16; omega⟩

/-- Head `i` of a partial output. -/
def headO (o : S16x16x64.Idx → Elt F .f32) (i : ℕ) : Vec F S1x16x64 .f32 :=
  if h : i < 16 then fun x => o ((headR i (headIn_of_lt h)).emb x) else fun x => o ((headR 0 (headIn_of_lt (by decide))).emb x)

theorem headO_eq (o : S16x16x64.Idx → Elt F .f32) {i : ℕ} (h : HeadIn i) : (fun x => o ((headR i h).emb x)) = headO o i := by
  unfold headO; rw [dif_pos (lt_of_headIn h)]; rfl

/-- Head `i` of the output, of the summed normaliser `l` and the two partial outputs. -/
def headU (l : FVec F S16x16 .f32) (o o' : S16x16x64.Idx → Elt F .f32) (i : ℕ) : FVec F S16x1x1x64 .f32 :=
  shapeCast S16x1x1x64
    (divf (addf (shapeCast S16x64 (headO o i) shapeCasts_S1x16x64_S16x64) (shapeCast S16x64 (headO o' i) shapeCasts_S1x16x64_S16x64))
      (broadcastTo S16x64 (if h : i < 16 then extractStridedSlice S16x1 ![0, i] l (slices_of_lt h) else extractStridedSlice S16x1 ![0, 0] l (slices_of_lt (by decide)))
        broadcasts_S16x1_S16x64))
    shapeCasts_S16x64_S16x1x1x64

/-- The output. -/
def outV (l : FVec F S16x16 .f32) (o o' : S16x16x64.Idx → Elt F .f32) : S16x1x16x64.Idx → Elt F .f32 :=
  fun x => headU l o o' (x 2).val (ix4 (x 0) 0 0 (x 3))

/-- The output buffer while the first `n` heads are done. -/
def outSt (c : Dev nD) (U : S16x1x16x64.Idx → Elt F .f32) (n : ℕ) : sProp 𝕄 :=
  iprop(∃ f : Buf (Elt F) (uB.view.loc (c : Thread nD τ)), ⌜∀ x : S16x1x16x64.Idx, (x 2).val < n → f x = U x⌝ ∗ bpt uB c fullShare f)

theorem out_write {U : S16x1x16x64.Idx → Elt F .f32} {n : ℕ} (h : OutIn n) (f : (cc0_stg2_0 : Ref sig .tc).ty.Contents (Elt F)) {w : FVec F S16x1x1x64 .f32}
    (hf : ∀ x : S16x1x16x64.Idx, (x 2).val < n → f x = U x) (hw : ∀ x : S16x1x16x64.Idx, (x 2).val = n → w (ix4 (x 0) 0 0 (x 3)) = U x) :
    ∀ x : S16x1x16x64.Idx, (x 2).val < n + 1 → (uB.access (outR n h)).write (Elt F) f w Finset.univ x = U x := by
  intro x hx
  by_cases e : (x 2).val = n
  · have hm : (outR n h).emb (ix4 (x 0) 0 0 (x 3)) = x := funext fun a => Fin.ext (by
      have h1 : (x 1).val = 0 := by have := (x 1).isLt; have e1 : S16x1x16x64.size 1 = 1 := rfl; omega
      fin_cases a
      · show 0 + 1 * (x 0).val = (x 0).val; omega
      · show 0 + 1 * 0 = (x 1).val; omega
      · show n + 1 * 0 = (x 2).val; omega
      · show 0 + 1 * (x 3).val = (x 3).val; omega)
    rw [← hw x e]
    have hv := View.write_emb_of_mem (v := uB.access (outR n h)) (Val := Elt F) f w (M := Finset.univ) (x := ix4 (x 0) 0 0 (x 3)) (Finset.mem_univ _)
    have he : (uB.access (outR n h)).emb (ix4 (x 0) 0 0 (x 3)) = x := hm
    rw [he] at hv
    exact hv
  · rw [View.write_of_not_mem]
    · exact hf x (by omega)
    · intro hmem
      obtain ⟨y, -, hy⟩ := Finset.mem_map.mp hmem
      have h2 : n + 1 * (y 2).val = (x 2).val := congrArg (fun z : S16x1x16x64.Idx => (z 2).val) hy
      have h3 : (y 2).val < 1 := (y 2).isLt
      omega

section

variable (c : Dev nD) (o o' : S16x16x64.Idx → Elt F .f32) (l : FVec F S16x16 .f32)

/-- The buffers while the first `n` heads of the output are done. -/
def headSt (n : ℕ) : sProp 𝕄 :=
  iprop(bpt oM c fullShare.right o ∗ bpt oR c fullShare o' ∗ outSt c (outV l o o') n)

section

variable {α : Type} {Q : α → sProp (MT nD τ sig Unit (Elt F) ℕ UU ℕ)} {n : ℕ}

theorem head_loadM {i : ℕ} {h : HeadIn i} {hl : oM.view.LoadsAt (headR i h).toLoadRect}
    {k : Vec F S1x16x64 .f32 → Prog (TpuEff nD τ sig (Elt F) Λ₀ .tc) α} :
    headSt c o o' l n
      ⊢ iprop((headSt c o o' l n -∗ wp frame (wpE (defs₀ (F := F)) 𝒱₀ (c : Thread nD τ) none) Set.univ (k (headO o i)) Q)
        -∗ wp frame (wpE (defs₀ (F := F)) 𝒱₀ (c : Thread nD τ) none) Set.univ (.op (.load oM (headR i h).toLoadRect hl) k) Q) := by
  unfold headSt
  iintro ⟨Ho, Ho', Hu⟩ Hk
  iapply (load_mem oM (headR i h) c (headO o i) (headO_eq o h)) $$ Ho; iintro Ho
  iapply Hk
  isplitl [Ho]; · iexact Ho
  isplitl [Ho'] <;> iassumption

theorem head_loadR {i : ℕ} {h : HeadIn i} {hl : oR.view.LoadsAt (headR i h).toLoadRect}
    {k : Vec F S1x16x64 .f32 → Prog (TpuEff nD τ sig (Elt F) Λ₀ .tc) α} :
    headSt c o o' l n
      ⊢ iprop((headSt c o o' l n -∗ wp frame (wpE (defs₀ (F := F)) 𝒱₀ (c : Thread nD τ) none) Set.univ (k (headO o' i)) Q)
        -∗ wp frame (wpE (defs₀ (F := F)) 𝒱₀ (c : Thread nD τ) none) Set.univ (.op (.load oR (headR i h).toLoadRect hl) k) Q) := by
  unfold headSt
  iintro ⟨Ho, Ho', Hu⟩ Hk
  iapply (load_mem oR (headR i h) c (headO o' i) (headO_eq o' h)) $$ Ho'; iintro Ho'
  iapply Hk
  isplitl [Ho]; · iexact Ho
  isplitl [Ho'] <;> iassumption

/-- The kernel reads a head of the output before it writes it, and drops what it read. -/
theorem head_store {h : OutIn n} {hl : uB.view.LoadsAt (outR n h).toLoadRect} {w : FVec F S16x1x1x64 .f32} (hw : w = headU l o o' n)
    {hx : (uB.access (outR n h)).Stores Finset.univ} {hm : Finset.univ = Finset.univ ∨ ∀ a, (outR n h).stride a = 1}
    {k : PUnit → Prog (TpuEff nD τ sig (Elt F) Λ₀ .tc) α} :
    headSt c o o' l n
      ⊢ iprop((headSt c o o' l (n + 1) -∗ wp frame (wpE (defs₀ (F := F)) 𝒱₀ (c : Thread nD τ) none) Set.univ (k ⟨⟩) Q)
        -∗ wp frame (wpE (defs₀ (F := F)) 𝒱₀ (c : Thread nD τ) none) Set.univ
          (.op (.load uB (outR n h).toLoadRect hl) fun _ => .op (.store uB (outR n h) w Finset.univ hx hm) k) Q) := by
  unfold headSt outSt
  iintro ⟨Ho, Ho', ⟨%f, %hf, Hu⟩⟩ Hk
  iapply (load_mem uB (outR n h) c _ rfl) $$ Hu; iintro Hu
  iapply (store_mem uB (outR n h) c _ rfl) $$ Hu; iintro Hu
  iapply Hk
  isplitl [Ho]; · iexact Ho
  isplitl [Ho']; · iexact Ho'
  iexists _
  isplitr; swap; · iexact Hu
  ipureintro
  exact out_write h f hf fun x hx => by rw [hw, ← hx]; rfl

end

theorem part29_run {Q : _ → sProp (MT nD τ sig Unit (Elt F) ℕ UU ℕ)} :
    iprop(headSt c o o' l 5 ∗ (headSt c o o' l 8 -∗ Q ⟨⟩))
      ⊢ wpC c (atw (k0_part29 (F := F)) l (k0_pay66 (headO o 5))) Q := by
  unfold wpC atw at_
  iintro ⟨H, Hk⟩
  rw [k0_part29_eq_skeleton]; unfold k0_part29_skel
  simp only [Prog.lift, Prog.bind_op, Prog.bind_ret, Prog.pure_eq_ret]
  iapply (head_loadR c o o' l) $$ H; iintro H
  rw [show k0_pay67 l (k0_pay66 (headO o 5)) (headO o' 5) = headU l o o' 5 from rfl]
  iapply (head_store c o o' l rfl) $$ H; iintro H
  iapply (head_loadM c o o' l) $$ H; iintro H
  iapply (head_loadR c o o' l) $$ H; iintro H
  rw [show k0_pay68 l (headO o 6) (headO o' 6) = headU l o o' 6 from rfl]
  iapply (head_store c o o' l rfl) $$ H; iintro H
  iapply (head_loadM c o o' l) $$ H; iintro H
  iapply (head_loadR c o o' l) $$ H; iintro H
  rw [show k0_pay69 l (headO o 7) (headO o' 7) = headU l o o' 7 from rfl]
  iapply (head_store c o o' l rfl) $$ H; iintro H
  rw [wp_ret]; imodintro
  iapply Hk
  iexact H

theorem part30_run {Q : _ → sProp (MT nD τ sig Unit (Elt F) ℕ UU ℕ)} :
    iprop(headSt c o o' l 8 ∗ (headSt c o o' l 10 -∗ Q (k0_pay72 l (headO o 10) (headO o' 10))))
      ⊢ wpC c (atw (k0_part30 (F := F)) l) Q := by
  unfold wpC atw at_
  iintro ⟨H, Hk⟩
  rw [k0_part30_eq_skeleton]; unfold k0_part30_skel
  simp only [Prog.lift, Prog.bind_op, Prog.bind_ret, Prog.pure_eq_ret]
  iapply (head_loadM c o o' l) $$ H; iintro H
  iapply (head_loadR c o o' l) $$ H; iintro H
  rw [show k0_pay70 l (headO o 8) (headO o' 8) = headU l o o' 8 from rfl]
  iapply (head_store c o o' l rfl) $$ H; iintro H
  iapply (head_loadM c o o' l) $$ H; iintro H
  iapply (head_loadR c o o' l) $$ H; iintro H
  rw [show k0_pay71 l (headO o 9) (headO o' 9) = headU l o o' 9 from rfl]
  iapply (head_store c o o' l rfl) $$ H; iintro H
  iapply (head_loadM c o o' l) $$ H; iintro H
  iapply (head_loadR c o o' l) $$ H; iintro H
  rw [wp_ret]; imodintro
  iapply Hk
  iexact H

theorem part31_run {Q : _ → sProp (MT nD τ sig Unit (Elt F) ℕ UU ℕ)} :
    iprop(headSt c o o' l 10 ∗ (headSt c o o' l 13 -∗ Q (k0_pay76 (headO o 13) (headO o' 13))))
      ⊢ wpC c (atw (k0_part31 (F := F)) l (k0_pay72 l (headO o 10) (headO o' 10))) Q := by
  unfold wpC atw at_
  iintro ⟨H, Hk⟩
  rw [k0_part31_eq_skeleton]; unfold k0_part31_skel
  simp only [Prog.lift, Prog.bind_op, Prog.bind_ret, Prog.pure_eq_ret]
  rw [show k0_pay73 (k0_pay72 l (headO o 10) (headO o' 10)) = headU l o o' 10 from rfl]
  iapply (head_store c o o' l rfl) $$ H; iintro H
  iapply (head_loadM c o o' l) $$ H; iintro H
  iapply (head_loadR c o o' l) $$ H; iintro H
  rw [show k0_pay74 l (headO o 11) (headO o' 11) = headU l o o' 11 from rfl]
  iapply (head_store c o o' l rfl) $$ H; iintro H
  iapply (head_loadM c o o' l) $$ H; iintro H
  iapply (head_loadR c o o' l) $$ H; iintro H
  rw [show k0_pay75 l (headO o 12) (headO o' 12) = headU l o o' 12 from rfl]
  iapply (head_store c o o' l rfl) $$ H; iintro H
  iapply (head_loadM c o o' l) $$ H; iintro H
  iapply (head_loadR c o o' l) $$ H; iintro H
  rw [wp_ret]; imodintro
  iapply Hk
  iexact H

theorem part32_run {Q : _ → sProp (MT nD τ sig Unit (Elt F) ℕ UU ℕ)} :
    iprop(headSt c o o' l 13 ∗ (headSt c o o' l 16 -∗ Q ⟨⟩))
      ⊢ wpC c (atw (k0_part32 (F := F)) l (k0_pay76 (headO o 13) (headO o' 13))) Q := by
  unfold wpC atw at_
  iintro ⟨H, Hk⟩
  rw [k0_part32_eq_skeleton]; unfold k0_part32_skel
  simp only [Prog.lift, Prog.bind_op, Prog.bind_ret, Prog.pure_eq_ret]
  rw [show k0_pay77 l (k0_pay76 (headO o 13) (headO o' 13)) = headU l o o' 13 from rfl]
  iapply (head_store c o o' l rfl) $$ H; iintro H
  iapply (head_loadM c o o' l) $$ H; iintro H
  iapply (head_loadR c o o' l) $$ H; iintro H
  rw [show k0_pay78 l (headO o 14) (headO o' 14) = headU l o o' 14 from rfl]
  iapply (head_store c o o' l rfl) $$ H; iintro H
  iapply (head_loadM c o o' l) $$ H; iintro H
  iapply (head_loadR c o o' l) $$ H; iintro H
  rw [show k0_pay79 l (headO o 15) (headO o' 15) = headU l o o' 15 from rfl]
  iapply (head_store c o o' l rfl) $$ H; iintro H
  rw [wp_ret]; imodintro
  iapply Hk
  iexact H

end

section

variable (c : Dev nD) (o o' : S16x16x64.Idx → Elt F .f32) (l₁ l₂ : FVec F S16x16 .f32)

theorem part27_run {Q : _ → sProp (MT nD τ sig Unit (Elt F) ℕ UU ℕ)} :
    iprop(bpt lR c fullShare l₂ ∗ headSt c o o' (k0_pay58 l₁ l₂) 0
        ∗ ((bpt lR c fullShare l₂ ∗ headSt c o o' (k0_pay58 l₁ l₂) 2)
          -∗ Q ⟨k0_pay58 l₁ l₂, k0_pay61 (headO o 2) (headO o' 2), k0_pay62 l₁ l₂⟩))
      ⊢ wpC c (atw (k0_part27 (F := F)) l₁) Q := by
  unfold wpC atw at_
  iintro ⟨Hl, H, Hk⟩
  rw [k0_part27_eq_skeleton]; unfold k0_part27_skel
  simp only [Prog.lift, Prog.bind_op, Prog.bind_ret, Prog.pure_eq_ret]
  iapply (load_mem lR _ c l₂ (Memref.read_access_unit_zero (Elt F) cc0_scratch3 zero2 inb_S16x16_S16x16_0_0 l₂)) $$ Hl; iintro Hl
  iapply (head_loadM c o o' (k0_pay58 l₁ l₂)) $$ H; iintro H
  iapply (head_loadR c o o' (k0_pay58 l₁ l₂)) $$ H; iintro H
  rw [show k0_pay59 l₁ l₂ (headO o 0) (headO o' 0) = headU (k0_pay58 l₁ l₂) o o' 0 from rfl]
  iapply (head_store c o o' (k0_pay58 l₁ l₂) rfl) $$ H; iintro H
  iapply (head_loadM c o o' (k0_pay58 l₁ l₂)) $$ H; iintro H
  iapply (head_loadR c o o' (k0_pay58 l₁ l₂)) $$ H; iintro H
  rw [show k0_pay60 l₁ l₂ (headO o 1) (headO o' 1) = headU (k0_pay58 l₁ l₂) o o' 1 from rfl]
  iapply (head_store c o o' (k0_pay58 l₁ l₂) rfl) $$ H; iintro H
  iapply (head_loadM c o o' (k0_pay58 l₁ l₂)) $$ H; iintro H
  iapply (head_loadR c o o' (k0_pay58 l₁ l₂)) $$ H; iintro H
  rw [wp_ret]; imodintro
  iapply Hk
  isplitl [Hl] <;> iassumption

theorem part28_run {Q : _ → sProp (MT nD τ sig Unit (Elt F) ℕ UU ℕ)} :
    iprop(headSt c o o' (k0_pay58 l₁ l₂) 2 ∗ (headSt c o o' (k0_pay58 l₁ l₂) 5 -∗ Q (k0_pay66 (headO o 5))))
      ⊢ wpC c (atw (k0_part28 (F := F)) (k0_pay58 l₁ l₂) (k0_pay61 (headO o 2) (headO o' 2)) (k0_pay62 l₁ l₂)) Q := by
  unfold wpC atw at_
  iintro ⟨H, Hk⟩
  rw [k0_part28_eq_skeleton]; unfold k0_part28_skel
  simp only [Prog.lift, Prog.bind_op, Prog.bind_ret, Prog.pure_eq_ret]
  rw [show k0_pay63 (k0_pay61 (headO o 2) (headO o' 2)) (k0_pay62 l₁ l₂) = headU (k0_pay58 l₁ l₂) o o' 2 from rfl]
  iapply (head_store c o o' (k0_pay58 l₁ l₂) rfl) $$ H; iintro H
  iapply (head_loadM c o o' (k0_pay58 l₁ l₂)) $$ H; iintro H
  iapply (head_loadR c o o' (k0_pay58 l₁ l₂)) $$ H; iintro H
  rw [show k0_pay64 (k0_pay58 l₁ l₂) (headO o 3) (headO o' 3) = headU (k0_pay58 l₁ l₂) o o' 3 from rfl]
  iapply (head_store c o o' (k0_pay58 l₁ l₂) rfl) $$ H; iintro H
  iapply (head_loadM c o o' (k0_pay58 l₁ l₂)) $$ H; iintro H
  iapply (head_loadR c o o' (k0_pay58 l₁ l₂)) $$ H; iintro H
  rw [show k0_pay65 (k0_pay58 l₁ l₂) (headO o 4) (headO o' 4) = headU (k0_pay58 l₁ l₂) o o' 4 from rfl]
  iapply (head_store c o o' (k0_pay58 l₁ l₂) rfl) $$ H; iintro H
  iapply (head_loadM c o o' (k0_pay58 l₁ l₂)) $$ H; iintro H
  rw [wp_ret]; imodintro
  iapply Hk
  iexact H

end

end Cert.PagedAttn

end
-- ==== Proof.BodySend.lean ====
/-
  The two remote copies and the four waits that go with them: the partner's partial output and normaliser before the
  output is made, the own copies' sources after it.
-/
module

public import proofs.«01_k».proof.Proof.BodyExchange

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (oV : Dev nD → S16x16x64.Idx → Elt F .f32) (lV : Dev nD → S16x16.Idx → Elt F .f32) (c : Dev nD) (K : GSem nD τ sig → ℕ)

/-- What the two copies and the two waits for the partner's take. -/
def swapPre : sProp 𝕄 :=
  iprop(invs oV lV K c
    ∗ (dutyTok ER (cell (pr c) .r0) 0 () ∗ dutyTok ER (cell (pr c) .r1) 0 () ∗ dutyTok ER (cell c .s0) 0 () ∗ dutyTok ER (cell c .s1) 0 ())
    ∗ (reached ER (cell c .s0) 0 ∗ reached ER (cell c .s1) 0) ∗ (reached ER (cell (pr c) .r0) 0 ∗ reached ER (cell (pr c) .r1) 0)
    ∗ ((∃ f, bpt oR (pr c) fullShare f) ∗ (∃ f, bpt lR (pr c) fullShare f))
    ∗ (bpt oM c fullShare (oV c) ∗ bpt lM c fullShare (lV c))
    ∗ (atPos ER (cell c .r0) 0 ∅ 0 ∗ atPos ER (cell c .r1) 0 ∅ 0)
    ∗ (cred (tallyAt (cell c .r0) () No) ∗ cred (tallyAt (cell c .r1) () Nl))
    ∗ ∃ W, owes (c : Thread nD τ) (O₁ c) W)

/-- What they leave: half of what was sent is still the device's to read, the partner's is there, nothing is owed. -/
def swapPost : sProp 𝕄 :=
  iprop((cred (tallyAt (cell c .s0) () No) ∗ cred (tallyAt (cell c .s1) () Nl))
    ∗ (bpt oM c fullShare.right (oV c) ∗ bpt lM c fullShare.right (lV c))
    ∗ (bpt oR c fullShare (oV (pr c)) ∗ bpt lR c fullShare (lV (pr c)))
    ∗ (atPos ER (cell c .r0) (0 + 1) ∅ 0 ∗ atPos ER (cell c .r1) (0 + 1) ∅ 0)
    ∗ ∃ W, owes (c : Thread nD τ) 0 W)

set_option maxHeartbeats 1000000 in
theorem part26_run {Q : _ → sProp (MT nD τ sig Unit (Elt F) ℕ UU ℕ)} (v2 v8 v9 v640 v641 : BitVec 32) :
    iprop(swapPre oV lV c K ∗ (swapPost oV lV c -∗ Q (lV c)))
      ⊢ wpC c (atw (k0_part26 (F := F)) c v2 v8 v9 v640 v641) Q := by
  unfold wpC atw at_ swapPre invs
  iintro ⟨⟨⟨-, #HIs0, #HIs1, #HIr0, #HIr1, -, #HIr0P, #HIr1P⟩, ⟨Htr0, Htr1, Hts0, Hts1⟩, ⟨#Hs0, #Hs1⟩, ⟨#Hr0P, #Hr1P⟩, ⟨⟨%fo, HoR⟩, ⟨%fl, HlR⟩⟩,
    ⟨Ho, Hl⟩, ⟨Hat0, Hat1⟩, ⟨Hc0, Hc1⟩, ⟨%W, HO⟩⟩, Hk⟩
  rw [k0_part26_eq_skeleton]; unfold k0_part26_skel
  simp only [Prog.lift, Prog.bind_op, Prog.bind_ret, Prog.pure_eq_ret, pr_dev2, pr_dev3]
  -- half of what is sent is lent to the copies
  ihave ⟨HoL, HoK⟩ := (pointsTo_share (PosShare.mem_left_op_right fullShare)).1 $$ Ho
  ihave ⟨HlL, HlK⟩ := (pointsTo_share (PosShare.mem_left_op_right fullShare)).1 $$ Hl
  iapply (Rounds.wp_send_pointsTo 𝒱₀ ER (sched oV lV) (c : Thread nD τ) none (c' := (pr c : Thread nD τ)) (src := oM) (dst := oR)
      (sS := .dma send0) (sem := .dma recv0) (q := fullShare.left) (fs := oV c) (κ₁ := K (cell c .s0)) (κ₂ := K (cell (pr c) .r0))
      (r₁ := 0) (r₂ := 0) (d₁ := ()) (d₂ := ()) (fd := fo)
      (mem_duties oV lV c .s0) (mem_duties oV lV (pr c) .r0) () () No rfl (amount_cell oV lV c .s0 ()) (amount_cell oV lV (pr c) .r0 ())
      (tallyAt (cell (pr c) .r1) () Nl) rfl (W := W)
      (Entails.of_eq (payload_cell oV lV c .s0 ()).symm)
      (by rw [payload_cell oV lV (pr c) .r0 ()]; unfold pay; rw [oR_landed, pr_pr])) $$ [HoL HoR HO Hts0 Htr0]
  · isplitr; · iexact HIs0
    isplitr; · iexact HIr0P
    isplitl [HoL]; · iexact HoL
    isplitl [HoR]; · iexact HoR
    isplitl [HO]; · iexact HO
    isplitl [Hts0]; · iexact Hts0
    isplitr; · iexact Hs0
    isplitl [Htr0]; · iexact Htr0
    iexact Hr0P
  iintro ⟨HcS0, HO⟩
  iapply (Rounds.wp_send_pointsTo 𝒱₀ ER (sched oV lV) (c : Thread nD τ) none (c' := (pr c : Thread nD τ)) (src := lM) (dst := lR)
      (sS := .dma send1) (sem := .dma recv1) (q := fullShare.left) (fs := lV c) (κ₁ := K (cell c .s1)) (κ₂ := K (cell (pr c) .r1))
      (r₁ := 0) (r₂ := 0) (d₁ := ()) (d₂ := ()) (fd := fl)
      (mem_duties oV lV c .s1) (mem_duties oV lV (pr c) .r1) () () Nl rfl (amount_cell oV lV c .s1 ()) (amount_cell oV lV (pr c) .r1 ())
      0 (by rw [zero_add]) (W := W)
      (Entails.of_eq (payload_cell oV lV c .s1 ()).symm)
      (by rw [payload_cell oV lV (pr c) .r1 ()]; unfold pay; rw [lR_landed, pr_pr])) $$ [HlL HlR HO Hts1 Htr1]
  · isplitr; · iexact HIs1
    isplitr; · iexact HIr1P
    isplitl [HlL]; · iexact HlL
    isplitl [HlR]; · iexact HlR
    isplitl [HO]; · iexact HO
    isplitl [Hts1]; · iexact Hts1
    isplitr; · iexact Hs1
    isplitl [Htr1]; · iexact Htr1
    iexact Hr1P
  iintro ⟨HcS1, HO⟩
  iapply (Rounds.wp_wait_rest_token 𝒱₀ ER (sched oV lV) (c : Thread nD τ) none (κ := K (cell c .r0))
      (wpE_waitDma2_eq 𝒱₀ (c : Thread nD τ) none Set.univ) (Set.mem_univ _) () (O := 0) (W := W) (R := 0) (m := 0) (T := ∅)
      ((Nat.zero_add _).trans (expect_cell oV lV c .r0).symm)) $$ [Hc0 HO Hat0]
  · isplitr; · iexact HIr0
    isplitl [Hc0]; · iexact Hc0
    isplitl [HO]; · iexact HO
    isplitr; · rw [MayWait_zero]; iempintro
    iexact Hat0
  iintro ⟨HO, Hat0, -, Hp0⟩
  ihave HoR := (Entails.of_eq (rest_cell oV lV c .r0)) $$ Hp0
  iapply (Rounds.wp_wait_rest_token 𝒱₀ ER (sched oV lV) (c : Thread nD τ) none (κ := K (cell c .r1))
      (wpE_waitDma2_eq 𝒱₀ (c : Thread nD τ) none Set.univ) (Set.mem_univ _) () (O := 0) (R := 0) (m := 0) (T := ∅)
      ((Nat.zero_add _).trans (expect_cell oV lV c .r1).symm)) $$ [Hc1 HO Hat1]
  · isplitr; · iexact HIr1
    isplitl [Hc1]; · iexact Hc1
    isplitl [HO]; · iexact HO
    isplitr; · rw [MayWait_zero]; iempintro
    iexact Hat1
  iintro ⟨HO, Hat1, -, Hp1⟩
  ihave HlR := (Entails.of_eq (rest_cell oV lV c .r1)) $$ Hp1
  iapply (load_mem lM _ c (lV c) (Memref.read_access_unit_zero (Elt F) cc0_scratch2 zero2 inb_S16x16_S16x16_0_0 (lV c))) $$ HlK; iintro HlK
  rw [wp_ret]; imodintro
  iapply Hk
  unfold swapPost pay
  isplitl [HcS0 HcS1]; · isplitl [HcS0] <;> iassumption
  isplitl [HoK HlK]; · isplitl [HoK] <;> iassumption
  isplitl [HoR HlR]
  · isplitl [HoR]; · iexact HoR
    iexact HlR
  isplitl [Hat0 Hat1]; · isplitl [Hat0] <;> iassumption
  iexists _; iexact HO

/-- A source buffer counts as many units as the landing buffer of its kind. -/
theorem credit_o : oM.view.dmaCredit = No := rfl
theorem credit_l : lM.view.dmaCredit = Nl := rfl

/-- What the waits for the own copies take. -/
def endPre : sProp 𝕄 :=
  iprop(invs oV lV K c ∗ (cred (tallyAt (cell c .s0) () No) ∗ cred (tallyAt (cell c .s1) () Nl))
    ∗ (bpt oM c fullShare.right (oV c) ∗ bpt lM c fullShare.right (lV c))
    ∗ (atPos ER (cell c .s0) 0 ∅ 0 ∗ atPos ER (cell c .s1) 0 ∅ 0) ∗ ∃ W, owes (c : Thread nD τ) 0 W)

/-- What they leave. -/
def endPost : sProp 𝕄 :=
  iprop((bpt oM c fullShare (oV c) ∗ bpt lM c fullShare (lV c))
    ∗ (atPos ER (cell c .s0) (0 + 1) ∅ 0 ∗ atPos ER (cell c .s1) (0 + 1) ∅ 0) ∗ ∃ W, owes (c : Thread nD τ) 0 W)

theorem end_run {Q : PUnit → sProp (MT nD τ sig Unit (Elt F) ℕ UU ℕ)} {h1 h2 h3 h4} :
    iprop(endPre oV lV c K ∗ (endPost oV lV c -∗ |={Set.univ}=> Q ⟨⟩))
      ⊢ wpC c (.op (.waitDma2 send0 oR oM h1 h2) .ret) fun _ => wpC c (.op (.waitDma2 send1 lR lM h3 h4) .ret) fun _ => wpC c (.ret ⟨⟩) Q := by
  unfold wpC endPre invs
  rw [← credit_o, ← credit_l]
  iintro ⟨⟨⟨-, #HIs0, #HIs1, -, -, -, -, -⟩, ⟨Hc0, Hc1⟩, ⟨HoK, HlK⟩, ⟨Hat0, Hat1⟩, ⟨%W, HO⟩⟩, Hk⟩
  iapply (Rounds.wp_wait_rest_token 𝒱₀ ER (sched oV lV) (c : Thread nD τ) none (κ := K (cell c .s0))
      (wpE_waitDma2_eq 𝒱₀ (c : Thread nD τ) none Set.univ) (Set.mem_univ _) () (O := 0) (W := W) (R := 0) (m := 0) (T := ∅)
      ((Nat.zero_add oM.view.dmaCredit).trans (credit_o.trans (expect_cell oV lV c .s0).symm))) $$ [Hc0 HO Hat0]
  · isplitr; · iexact HIs0
    isplitl [Hc0]; · iexact Hc0
    isplitl [HO]; · iexact HO
    isplitr; · rw [MayWait_zero]; iempintro
    iexact Hat0
  iintro ⟨HO, Hat0, -, Hp0⟩
  rw [wp_ret]; imodintro
  ihave HoL := (Entails.of_eq (rest_cell oV lV c .s0)) $$ Hp0
  iapply (Rounds.wp_wait_rest_token 𝒱₀ ER (sched oV lV) (c : Thread nD τ) none (κ := K (cell c .s1))
      (wpE_waitDma2_eq 𝒱₀ (c : Thread nD τ) none Set.univ) (Set.mem_univ _) () (O := 0) (R := 0) (m := 0) (T := ∅)
      ((Nat.zero_add lM.view.dmaCredit).trans (credit_l.trans (expect_cell oV lV c .s1).symm))) $$ [Hc1 HO Hat1]
  · isplitr; · iexact HIs1
    isplitl [Hc1]; · iexact Hc1
    isplitl [HO]; · iexact HO
    isplitr; · rw [MayWait_zero]; iempintro
    iexact Hat1
  iintro ⟨HO, Hat1, -, Hp1⟩
  ihave HlL := (Entails.of_eq (rest_cell oV lV c .s1)) $$ Hp1
  unfold pay
  rw [wp_ret]; imodintro; rw [wp_ret]
  iapply Hk
  unfold endPost
  isplitl [HoK HlK HoL HlL]
  · isplitl [HoK HoL]
    · iapply (pointsTo_share (PosShare.mem_left_op_right fullShare)).2
      isplitl [HoL] <;> iassumption
    · iapply (pointsTo_share (PosShare.mem_left_op_right fullShare)).2
      isplitl [HlL] <;> iassumption
  isplitl [Hat0 Hat1]; · isplitl [Hat0] <;> iassumption
  iexists _; iexact HO

end Cert.PagedAttn

end
-- ==== Proof.Body.lean ====
/-
  The kernel's body of one device, whole.
-/
module

public import proofs.«01_k».proof.Proof.BodySend

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (oV : Dev nD → S16x16x64.Idx → Elt F .f32) (lV : Dev nD → S16x16.Idx → Elt F .f32) (c : Dev nD) (K : GSem nD τ sig → ℕ)
variable (ks : Buf (Elt F) (kH.view.loc (c : Thread nD τ))) (vs : Buf (Elt F) (vH.view.loc (c : Thread nD τ)))
variable (qv : S16x1x16x64.Idx → Elt F .f32) (bv : S16x128x1.Idx → Elt F .i32)

/-- The page weights of a device, and the scaled query. -/
abbrev wOf (c : Dev nD) (bv : S16x128x1.Idx → Elt F .i32) := k0_pay1 (F := F) (yW c) bv

/-- The output of a device, of what it and its partner send. -/
def uOf (c : Dev nD) : S16x1x16x64.Idx → Elt F .f32 := outV (k0_pay58 (lV c) (lV (pr c))) (oV c) (oV (pr c))

/-- The scratch buffers of the exchange, at any values. -/
def scratch (c : Dev nD) : sProp 𝕄 :=
  iprop(((∃ f, bpt oM c fullShare f) ∗ (∃ f, bpt lM c fullShare f)) ∗ (∃ f, bpt oR c fullShare f) ∗ (∃ f, bpt lR c fullShare f))

/-- The positions at the round `n` of a device's five cells. -/
def positions (c : Dev nD) (n : ℕ) : sProp 𝕄 :=
  iprop(atPos ER (cell c .bar) n ∅ 0 ∗ (atPos ER (cell c .s0) n ∅ 0 ∗ atPos ER (cell c .s1) n ∅ 0)
    ∗ atPos ER (cell c .r0) n ∅ 0 ∗ atPos ER (cell c .r1) n ∅ 0)

/-- What the body starts from. -/
def bodyPre : sProp 𝕄 :=
  iprop((opened oV lV K c ∗ waitCreds c ∗ levAts L lv ∗ ∃ W, owes (c : Thread nD τ) (O₀ c) W)
    ∗ (kRows c ks 0 0 ∗ vRows c vs 0 0) ∗ scratch c ∗ (bpt qB c fullShare qv ∗ bpt bB c fullShare bv) ∗ ∃ f, bpt uB c fullShare f)

/-- What it leaves: the output written, every cell's round over, nothing owed. -/
def bodyPost : sProp 𝕄 :=
  iprop((positions c (0 + 1) ∗ ∃ W, owes (c : Thread nD τ) 0 W)
    ∗ (kRows c ks 16 16 ∗ vRows c vs 16 16) ∗ scratch c ∗ (bpt qB c fullShare qv ∗ bpt bB c fullShare bv) ∗ bpt uB c fullShare (uOf oV lV c))

attribute [local irreducible] lAcc oAcc oSend lSend in
set_option maxHeartbeats 4000000 in
theorem body_run (ho : oV c = oSend c ks vs (wOf c bv) (k0_pay2 qv)) (hl : lV c = lSend c ks (wOf c bv) (k0_pay2 qv))
    {Q : PUnit → sProp (MT nD τ sig Unit (Elt F) ℕ UU ℕ)} :
    iprop(bodyPre oV lV c K ks vs qv bv ∗ (bodyPost oV lV c ks vs qv bv -∗ |={Set.univ}=> Q ⟨⟩)) ⊢ wpC c (atw (cc0__body (F := F))) Q := by
  unfold wpC bodyPre opened payToks waitCreds scratch
  iintro ⟨⟨⟨⟨#HI, HatB, ⟨Hat0, #Hs0⟩, ⟨Hat1, #Hs1⟩, ⟨Har0, #Hr0⟩, ⟨Har1, #Hr1⟩, #HrP, ⟨HtB, Htr0, Htr1, Hts0, Hts1⟩⟩, ⟨HcB, Hc0, Hc1⟩, #Hlev, HO⟩,
    ⟨HK, HV⟩, ⟨Hsrc, HoR, HlR⟩, ⟨Hq, Hb⟩, Hu⟩, Hk⟩
  rw [cc0__body_eq_skeleton]
  unfold atw at_ cc0__body_skel
  simp only [wp_bind]
  iapply (part1_run qB (Memref.isWhole_whole _) bB (Memref.isWhole_whole _) uB (Memref.isWhole_whole _) oV lV c K ks)
  isplitl [HatB HcB HtB HoR HlR HO]
  · unfold meetPre
    isplitr; · iexact HI
    isplitr; · iexact Hlev
    isplitl [HatB]; · iexact HatB
    isplitl [HcB]; · iexact HcB
    isplitr; · iexact HrP
    isplitl [HtB]; · iexact HtB
    isplitr
    · isplitr; · iexact Hr0
      iexact Hr1
    isplitl [HoR HlR]; · isplitl [HoR] <;> iassumption
    iexact HO
  isplitl [HK]; · iexact HK
  iintro %v2 %v8 %v9 ⟨Hm, HK⟩
  unfold meetPost
  icases Hm with ⟨⟨#Hr0P, #Hr1P⟩, HPR, HatB, HO⟩
  dsimp only
  iapply (parts2to9_run qB (Memref.isWhole_whole _) bB (Memref.isWhole_whole _) uB (Memref.isWhole_whole _) c ks vs)
  isplitl [HK]; · iexact HK
  isplitl [HV]; · iexact HV
  iintro ⟨HK, HV⟩
  iapply (part10_run c ks vs (yW c) qv bv)
  isplitl [HK HV HO]
  · isplitr; · iexact Hlev
    isplitl [HK]; · iexact HK
    isplitl [HV]; · iexact HV
    iexact HO
  isplitl [Hq Hb]; · isplitl [Hq] <;> iassumption
  iintro ⟨H, Hq, Hb⟩
  dsimp only
  iapply (part11_run c ks vs (wOf c bv) (k0_pay2 qv))
  isplitl [H]; · iexact H
  iintro H
  dsimp only
  iapply (part12_run c ks vs (wOf c bv) (k0_pay2 qv))
  isplitl [H]; · iexact H
  iintro H
  dsimp only
  iapply (part13_run c ks vs (wOf c bv) (k0_pay2 qv))
  isplitl [H]; · iexact H
  iintro H
  dsimp only
  iapply (part14_run c ks vs (wOf c bv) (k0_pay2 qv))
  isplitl [H]; · iexact H
  iintro H
  dsimp only
  iapply (part15_run c ks vs (wOf c bv) (k0_pay2 qv))
  isplitl [H]; · iexact H
  iintro H
  dsimp only
  iapply (part16_run c ks vs (wOf c bv) (k0_pay2 qv))
  isplitl [H]; · iexact H
  iintro H
  dsimp only
  iapply (part17_run c ks vs (wOf c bv) (k0_pay2 qv))
  isplitl [H]; · iexact H
  iintro H
  dsimp only
  iapply (part18_run c ks vs (wOf c bv) (k0_pay2 qv))
  isplitl [H]; · iexact H
  iintro H
  dsimp only
  iapply (part19_run c ks vs (wOf c bv) (k0_pay2 qv))
  isplitl [H]; · iexact H
  iintro H
  dsimp only
  iapply (part20_run c ks vs (wOf c bv) (k0_pay2 qv))
  isplitl [H]; · iexact H
  iintro H
  dsimp only
  iapply (part21_run c ks vs (wOf c bv) (k0_pay2 qv))
  isplitl [H]; · iexact H
  iintro H
  dsimp only
  iapply (part22_run c ks vs (wOf c bv) (k0_pay2 qv))
  isplitl [H]; · iexact H
  iintro H
  dsimp only
  iapply (part23_run c ks vs (wOf c bv) (k0_pay2 qv))
  isplitl [H]; · iexact H
  iintro H
  dsimp only
  iapply (part24_run c ks vs (wOf c bv) (k0_pay2 qv))
  isplitl [H]; · iexact H
  iintro H
  dsimp only
  iapply (part25_run c ks vs (wOf c bv) (k0_pay2 qv) v2 v9)
  isplitl [H]; · iexact H
  isplitl [Hsrc]; · iexact Hsrc
  iintro %r ⟨H, Ho, Hl⟩
  obtain ⟨v640, v641⟩ := r
  dsimp only
  unfold loopSt
  icases H with ⟨-, HK, HV, HO⟩
  iapply (part26_run oV lV c K v2 v8 v9 v640 v641)
  isplitl [Htr0 Htr1 Hts0 Hts1 HPR Ho Hl Har0 Har1 Hc0 Hc1 HO]
  · unfold swapPre
    rw [ho, hl]
    isplitr; · iexact HI
    isplitl [Htr0 Htr1 Hts0 Hts1]
    · isplitl [Htr0]; · iexact Htr0
      isplitl [Htr1]; · iexact Htr1
      isplitl [Hts0] <;> iassumption
    isplitr
    · isplitr; · iexact Hs0
      iexact Hs1
    isplitr
    · isplitr; · iexact Hr0P
      iexact Hr1P
    isplitl [HPR]; · iexact HPR
    isplitl [Ho Hl]; · isplitl [Ho] <;> iassumption
    isplitl [Har0 Har1]; · isplitl [Har0] <;> iassumption
    isplitl [Hc0 Hc1]; · isplitl [Hc0] <;> iassumption
    iexact HO
  unfold swapPost
  iintro ⟨Hcs, ⟨HoK, HlK⟩, ⟨HoR, HlR⟩, Har, HO⟩
  iapply (part27_run c (oV c) (oV (pr c)) (lV c) (lV (pr c)))
  isplitl [HlR]; · iexact HlR
  isplitl [HoK HoR Hu]
  · unfold headSt outSt
    isplitl [HoK]; · iexact HoK
    isplitl [HoR]; · iexact HoR
    icases Hu with ⟨%f, Hu⟩
    iexists f
    isplitr; swap; · iexact Hu
    ipureintro
    exact fun x hx => absurd hx (Nat.not_lt_zero _)
  iintro ⟨HlR, H⟩
  dsimp only
  iapply (part28_run c (oV c) (oV (pr c)) (lV c) (lV (pr c)))
  isplitl [H]; · iexact H
  iintro H
  iapply (part29_run c (oV c) (oV (pr c)) (k0_pay58 (lV c) (lV (pr c))))
  isplitl [H]; · iexact H
  iintro H
  iapply (part30_run c (oV c) (oV (pr c)) (k0_pay58 (lV c) (lV (pr c))))
  isplitl [H]; · iexact H
  iintro H
  iapply (part31_run c (oV c) (oV (pr c)) (k0_pay58 (lV c) (lV (pr c))))
  isplitl [H]; · iexact H
  iintro H
  iapply (part32_run c (oV c) (oV (pr c)) (k0_pay58 (lV c) (lV (pr c))))
  isplitl [H]; · iexact H
  iintro H
  simp only [Prog.lift, Prog.bind_op, Prog.bind_ret, Prog.pure_eq_ret]
  unfold headSt outSt
  icases H with ⟨HoK, HoR, ⟨%f, %hf, Hu⟩⟩
  obtain rfl : f = uOf oV lV c := funext fun x => hf x (x 2).isLt
  iapply (end_run oV lV c K)
  isplitl [Hcs HoK HlK Hat0 Hat1 HO]
  · unfold endPre
    isplitr; · iexact HI
    isplitl [Hcs]; · iexact Hcs
    isplitl [HoK HlK]; · isplitl [HoK] <;> iassumption
    isplitl [Hat0 Hat1]; · isplitl [Hat0] <;> iassumption
    iexact HO
  unfold endPost
  iintro ⟨⟨Ho, Hl⟩, Hat, HO⟩
  iapply Hk
  unfold bodyPost positions scratch
  isplitl [HatB Hat Har HO]
  · isplitr [HO]; swap; · iexact HO
    isplitl [HatB]; · iexact HatB
    isplitl [Hat] <;> iassumption
  isplitl [HK HV]; · isplitl [HK] <;> iassumption
  isplitl [Ho Hl HoR HlR]
  · isplitl [Ho Hl]
    · isplitl [Ho]; · iexists _; iexact Ho
      iexists _; iexact Hl
    isplitl [HoR]; · iexists _; iexact HoR
    iexists _; iexact HlR
  isplitl [Hq Hb]; · isplitl [Hq] <;> iassumption
  iexact Hu

end

end Cert.PagedAttn

end
-- ==== Proof.Region.lean ====
/-
  The kernel as the one region of the program: what its buffers hold when it is entered and when it is left, and the
  body's obligation.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The values -/

/-- A device's query and page table, as the region stages them. -/
abbrev qIn (c : Dev nD) : S16x1x16x64.Idx → Elt F .f32 := iblk m c 0 t0_0
abbrev bIn (c : Dev nD) : S16x128x1.Idx → Elt F .i32 := iblk m c 1 t0_0
/-- A device's key and value pages. -/
abbrev kIn (c : Dev nD) : Buf (Elt F) (kH.view.loc (c : Thread nD τ)) := V m c main_v9
abbrev vIn (c : Dev nD) : Buf (Elt F) (vH.view.loc (c : Thread nD τ)) := V m c main_v10

/-- The partial output and the partial normaliser a device sends. -/
def oOf (c : Dev nD) : S16x16x64.Idx → Elt F .f32 := oSend c (kIn m c) (vIn m c) (wOf c (bIn m c)) (k0_pay2 (qIn m c))
def lOf (c : Dev nD) : S16x16.Idx → Elt F .f32 := lSend c (kIn m c) (wOf c (bIn m c)) (k0_pay2 (qIn m c))
/-- A device's output. -/
abbrev resOf (c : Dev nD) : S16x1x16x64.Idx → Elt F .f32 := uOf (oOf m) (lOf m) c

/-! ## The kernel's own semaphores -/

/-- The thirty-two semaphores of the row copies and the four of the remote copies. -/
abbrev osem : Fin 16 ⊕ Fin 16 ⊕ Fin 4 → SemLoc sig
  | .inl i => .dma (rowS cc0_scratch6 i.val (semIn_of_lt i.isLt))
  | .inr (.inl i) => .dma (rowS cc0_scratch7 i.val (semIn_of_lt i.isLt))
  | .inr (.inr k) => ![Role.s0.sm, Role.s1.sm, Role.r0.sm, Role.r1.sm] k

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The row semaphores of the keys and of the values, at zero. -/
def rowSems (c : Dev nD) : sProp 𝕄 :=
  iprop((bigSep Finset.univ fun i : Fin 16 => semRow (F := F) cc0_scratch6 c i) ∗ bigSep Finset.univ fun i : Fin 16 => semRow (F := F) cc0_scratch7 c i)
/-- The four of the remote copies, at zero. -/
def talkSems (c : Dev nD) : sProp 𝕄 :=
  iprop(semVal (cell c .s0) 0 ∗ semVal (cell c .s1) 0 ∗ semVal (cell c .r0) 0 ∗ semVal (cell c .r1) 0)

theorem ownSems_eq (c : Dev nD) : (Pipeline.ownSems0 osem c : sProp 𝕄) = iprop((bigSep Finset.univ fun i : Fin 16 => semRow (F := F) cc0_scratch6 c i)
    ∗ (bigSep Finset.univ fun i : Fin 16 => semRow (F := F) cc0_scratch7 c i) ∗ talkSems c) := by
  unfold Pipeline.ownSems0
  rw [BI.bigSep_univ_sum, BI.bigSep_univ_sum, bigSep_fin4]
  rfl

/-! ## The region's proof data -/

/-- The scoped buffers no window stages. -/
abbrev rest0 (c : Dev nD) : sProp 𝕄 := Pipeline.scopedRest (Ix := Unit) (Name := ℕ) (U := UU) (Lvl := ℕ) (Val := Elt F) spec0 c

/-- The key and value pages a device reads, at the full share. -/
def pages (c : Dev nD) : sProp 𝕄 := iprop(bpt kH c fullShare (kIn m c) ∗ bpt vH c fullShare (vIn m c))

/-- What the body starts from beside its windows, and what it leaves. -/
def inSt (c : Dev nD) : sProp 𝕄 :=
  iprop(((∃ K, opened (oOf m) (lOf m) K c) ∗ waitCreds c ∗ levAts L lv) ∗ pages m c ∗ rowSems c ∗ rest0 c ∗ ∃ r, prngReg c r)
def outSt' (c : Dev nD) : sProp 𝕄 :=
  iprop((semVal (cell c .bar) 0 ∗ talkSems c) ∗ pages m c ∗ rowSems c ∗ rest0 c ∗ ∃ r, prngReg c r)

def dat0 (c : Dev nD) : Dat τ (Elt F) Unit ℕ UU ℕ cfg0 c where
  A w := V m c (Pipeline.arrRef spec0 w)
  after w _ := match w with
    | ⟨0, _⟩ => qIn m c
    | ⟨1, _⟩ => bIn m c
    | ⟨2, _⟩ => resOf m c
  Φ t := if t.val = 0 then inSt m c else outSt' m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem before_q (c : Dev nD) (d : (cfg0.win 0).block.Idx → Elt F (cfg0.win 0).elt) : (dat0 m c).before 0 t0_0 d = qIn m c := by
  unfold Pipeline.Dat.before; rw [if_pos (by decide)]; rfl
theorem before_b (c : Dev nD) (d : (cfg0.win 1).block.Idx → Elt F (cfg0.win 1).elt) : (dat0 m c).before 1 t0_0 d = bIn m c := by
  unfold Pipeline.Dat.before; rw [if_pos (by decide)]; rfl

theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owes_in (c : Dev nD) : ((dat0 (F := F) m c).owesAt () t0_0.castSucc : sProp 𝕄) ⊢ iprop(∃ W, owes (c : Thread nD τ) (O₀ c) W) := by
  unfold Dat.owesAt Pipeline.owesWithin
  rw [show (dat0 (F := F) m c).owed t0_0.castSucc = O₀ c from by show (if (t0_0.castSucc : Fin (cfg0.N + 1)).val = 0 then O₀ c else 0) = _; exact if_pos rfl]
  iintro ⟨%W, -, HO⟩; iexists W; iexact HO
theorem owes_out (c : Dev nD) : iprop(∃ W, owes (c : Thread nD τ) 0 W) ⊢ ((dat0 (F := F) m c).owesAt () t0_0.succ : sProp 𝕄) := by
  unfold Dat.owesAt Pipeline.owesWithin
  rw [show (dat0 (F := F) m c).owed t0_0.succ = 0 from by show (if (t0_0.succ : Fin (cfg0.N + 1)).val = 0 then O₀ c else 0) = 0; exact if_neg (Nat.succ_ne_zero _)]
  iintro ⟨%W, HO⟩
  iexists W
  isplitr; swap; · iexact HO
  ipureintro; exact fun _ _ => Or.inl trivial

/-- The five cells closed. -/
theorem close_all (oV : Dev nD → S16x16x64.Idx → Elt F .f32) (lV : Dev nD → S16x16.Idx → Elt F .f32) (K : GSem nD τ sig → ℕ) (c : Dev nD) :
    iprop(invs oV lV K c ∗ positions c (0 + 1)) ⊢ (iprop(|={Set.univ}=> (semVal (cell c .bar) 0 ∗ talkSems (F := F) c)) : sProp 𝕄) := by
  unfold invs positions talkSems
  iintro ⟨⟨#Ib, #I0, #I1, #J0, #J1, -, -, -⟩, Pb, ⟨P0, P1⟩, Q0, Q1⟩
  imod (close (F := F) oV lV (K (cell c .bar)) (cell c .bar)) $$ [Pb] with Hb
  · isplitr; · iexact Ib
    iexact Pb
  imod (close (F := F) oV lV (K (cell c .s0)) (cell c .s0)) $$ [P0] with H0
  · isplitr; · iexact I0
    iexact P0
  imod (close (F := F) oV lV (K (cell c .s1)) (cell c .s1)) $$ [P1] with H1
  · isplitr; · iexact I1
    iexact P1
  imod (close (F := F) oV lV (K (cell c .r0)) (cell c .r0)) $$ [Q0] with H2
  · isplitr; · iexact J0
    iexact Q0
  imod (close (F := F) oV lV (K (cell c .r1)) (cell c .r1)) $$ [Q1] with H3
  · isplitr; · iexact J1
    iexact Q1
  imodintro
  isplitl [Hb]; · iexact Hb
  isplitl [H0]; · iexact H0
  isplitl [H1]; · iexact H1
  isplitl [H2] <;> iassumption

/-- A whole buffer's points-to is its location's. -/
theorem bpt_whole (c : Dev nD) (b : Ref sig .tc) (q : PosShare TreeShare) (f : Buf (Elt F) ((c : Thread nD τ).loc b)) :
    (bpt (Memref.whole b) c q f : sProp 𝕄) = (((c : Thread nD τ).loc b) ↦{q} f) := by
  simp only [bpt, Memref.view_whole, View.set_whole]

/-- The rows of the keys and of the values, before any copy, and after all of them. -/
theorem rows_open (c : Dev nD) :
    iprop(pages m c ∗ rowSems c ∗ (∃ f, bpt kB c fullShare f) ∗ ∃ f, bpt vB c fullShare f)
      ⊢ (iprop(kRows c (kIn m c) 0 0 ∗ vRows c (vIn m c) 0 0) : sProp 𝕄) := by
  unfold pages rowSems
  iintro ⟨⟨Hk, Hv⟩, ⟨Sk, Sv⟩, HkB, HvB⟩
  isplitl [Hk Sk HkB]
  · iapply rows_intro
    isplitl [Hk]; · iexact Hk
    isplitl [HkB] <;> iassumption
  · iapply rows_intro
    isplitl [Hv]; · iexact Hv
    isplitl [HvB] <;> iassumption

theorem rows_shut (c : Dev nD) :
    (iprop(kRows c (kIn m c) 16 16 ∗ vRows c (vIn m c) 16 16) : sProp 𝕄)
      ⊢ iprop(pages m c ∗ rowSems c ∗ (∃ f, bpt kB c fullShare f) ∗ ∃ f, bpt vB c fullShare f) := by
  unfold pages rowSems
  iintro ⟨Hk, Hv⟩
  ihave ⟨Hk, HkB, Sk⟩ := rows_elim $$ Hk
  ihave ⟨Hv, HvB, Sv⟩ := rows_elim $$ Hv
  isplitl [Hk Hv]; · isplitl [Hk] <;> iassumption
  isplitl [Sk Sv]; · isplitl [Sk] <;> iassumption
  isplitl [HkB] <;> iassumption

theorem rest0_buffers (c : Dev nD) :
    (rest0 c : sProp 𝕄) = iprop((∃ f, bpt oM c fullShare f) ∗ (∃ f, bpt oR c fullShare f) ∗ (∃ f, bpt lM c fullShare f)
      ∗ (∃ f, bpt lR c fullShare f) ∗ (∃ f, bpt kB c fullShare f) ∗ ∃ f, bpt vB c fullShare f) := by
  unfold rest0
  rw [scopedRest0_eq]
  simp only [← bpt_whole]

/-- The program the region runs at its one point. -/
theorem the_body : defs₀ (F := F) .tc cfg0.body (cfg0.bodyArgs t0_0 (cfg0.slots t0_0)) = atw (cc0__body (F := F)) := rfl

theorem body_obligation (c : Dev nD) : BodyObligation (dat0 (F := F) m c) (defs₀ (F := F)) 𝒱₀ () Set.univ := fun t => by
  obtain rfl := fin_N0 t
  rw [bigSep_W0, bigSep_W0]
  simp only [owns_buf]
  rw [show (dat0 m c).Φ t0_0.castSucc = inSt m c from rfl, show (dat0 m c).Φ t0_0.succ = outSt' m c from rfl, the_body]
  unfold inSt outSt'
  rw [rest0_buffers]
  unfold opened
  iintro ⟨⟨⟨⟨%K, #HI, Hg⟩, Hw, #Hlev⟩, Hp, Hs, ⟨Ho, HoR, Hl, HlR, HkB, HvB⟩, Hreg⟩, HO, ⟨%d0, %f0, %hf0, H0⟩, ⟨%d1, %f1, %hf1, H1⟩, ⟨%d2, %f2, -, H2⟩⟩
  subst f0 f1
  rw [before_q, before_b]
  ihave ⟨Hk, Hv⟩ := (rows_open m c) $$ [Hp Hs HkB HvB]
  · isplitl [Hp]; · iexact Hp
    isplitl [Hs]; · iexact Hs
    isplitl [HkB] <;> iassumption
  iapply (body_run (oOf m) (lOf m) c K (kIn m c) (vIn m c) (qIn m c) (bIn m c) rfl rfl)
  isplitl [Hg Hw HO Hk Hv Ho HoR Hl HlR H0 H1 H2]
  · unfold bodyPre
    isplitl [Hg Hw HO]
    · unfold opened
      isplitl [Hg]
      · isplitr; · iexact HI
        iexact Hg
      isplitl [Hw]; · iexact Hw
      isplitr; · iexact Hlev
      iapply (owes_in m c) $$ HO
    isplitl [Hk Hv]; · isplitl [Hk] <;> iassumption
    isplitl [Ho HoR Hl HlR]
    · unfold scratch
      isplitl [Ho Hl]; · isplitl [Ho] <;> iassumption
      isplitl [HoR] <;> iassumption
    isplitl [H0 H1]
    · isplitl [H0]
      · iapply (Entails.of_eq (bpt_whole c cc0_stg0_0 fullShare _).symm) $$ H0
      · iapply (Entails.of_eq (bpt_whole c cc0_stg1_0 fullShare _).symm) $$ H1
    iexists f2
    iapply (Entails.of_eq (bpt_whole c cc0_stg2_0 fullShare _).symm) $$ H2
  unfold bodyPost scratch
  iintro ⟨⟨HP, HO⟩, ⟨Hk, Hv⟩, ⟨⟨Ho, Hl⟩, HoR, HlR⟩, ⟨H0, H1⟩, H2⟩
  imod (close_all (oOf m) (lOf m) K c) $$ [HP] with Hz
  · isplitr; · iexact HI
    iexact HP
  ihave ⟨Hp, Hs, HkB, HvB⟩ := (rows_shut m c) $$ [Hk Hv]
  · isplitl [Hk] <;> iassumption
  imodintro
  isplitl [Hz Hp Hs HkB HvB Ho Hl HoR HlR Hreg]
  · isplitl [Hz]; · iexact Hz
    isplitl [Hp]; · iexact Hp
    isplitl [Hs]; · iexact Hs
    isplitr [Hreg]; swap; · iexact Hreg
    isplitl [Ho]; · iexact Ho
    isplitl [HoR]; · iexact HoR
    isplitl [Hl]; · iexact Hl
    isplitl [HlR]; · iexact HlR
    isplitl [HkB] <;> iassumption
  isplitl [HO]; · iapply (owes_out m c) $$ HO
  isplitl [H0]
  · iexists _; isplitr; swap
    · iapply (Entails.of_eq (bpt_whole c cc0_stg0_0 fullShare _)) $$ H0
    ipureintro; rfl
  isplitl [H1]
  · iexists _; isplitr; swap
    · iapply (Entails.of_eq (bpt_whole c cc0_stg1_0 fullShare _)) $$ H1
    ipureintro; rfl
  iexists _; isplitr; swap
  · iapply (Entails.of_eq (bpt_whole c cc0_stg2_0 fullShare _)) $$ H2
  ipureintro; rfl

end Cert.PagedAttn

end
-- ==== Proof.Entry.lean ====
/-
  The region as a segment of the program: its entry, where the cells of the remote copies are opened, and its exit.
-/
module

public import proofs.«01_k».proof.Proof.Region
public import Idealize.ShloMosaic.Lib.Pipeline.Value

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The windows' blocks are their whole arrays -/

theorem blk_q (f : (main_arg0 : Ref sig .tc).ty.Contents (Elt F)) : (win0_0.blk t0_0).view.read (Elt F) f = f :=
  Memref.read_access_unit_zero (Elt F) main_arg0
    (show (fun a => (win0_0.index t0_0) a * main_arg0.ty.shape.size a) = fun _ => 0 from funext fun a => by fin_cases a <;> decide)
    (fun a => by fin_cases a <;> decide) f
theorem blk_b (f : (main_v8 : Ref sig .tc).ty.Contents (Elt F)) : (win0_1.blk t0_0).view.read (Elt F) f = f :=
  Memref.read_access_unit_zero (Elt F) main_v8
    (show (fun a => (win0_1.index t0_0) a * main_v8.ty.shape.size a) = fun _ => 0 from funext fun a => by fin_cases a <;> decide)
    (fun a => by fin_cases a <;> decide) f
theorem blk_u (f : (main_v11 : Ref sig .tc).ty.Contents (Elt F)) : (win0_2.blk t0_0).view.read (Elt F) f = f :=
  Memref.read_access_unit_zero (Elt F) main_v11
    (show (fun a => (win0_2.index t0_0) a * main_v11.ty.shape.size a) = fun _ => 0 from funext fun a => by fin_cases a <;> decide)
    (fun a => by fin_cases a <;> decide) f

theorem qIn_eq (c : Dev nD) : qIn m c = V m c main_arg0 := blk_q _
theorem bIn_eq (c : Dev nD) : bIn m c = V m c main_v8 := blk_b _

/-- The result array after the run. -/
theorem arr_out (c : Dev nD) : (dat0 (F := F) m c).arrAt 2 cfg0.N = resOf m c := by
  have h := (dat0 (F := F) m c).read_blk_arrAt 2 (resOf m c) (fun t ht => by
    obtain rfl := fin_N0 t
    show _ = (win0_2.blk t0_0).view.read (Elt F) (resOf m c)
    rw [blk_u]; rfl) t0_0 (flush0_2 t0_0)
  exact ((blk_u _).symm.trans h).trans (blk_u _)

/-! ## The valuations at the region's two ends -/

def Wv (c : Dev nD) : Valuation τ sig (Elt F) := StableHlo.after (List.flatten [hostOps0, hostOps0_1, hostOps0_2]) fun b => m (c, b)
def Wv' (c : Dev nD) : Valuation τ sig (Elt F) := Function.update (Wv m c) (Proc.devRef .tc main_v11) (resOf m c)

theorem Wv'_ne (c : Dev nD) (b : DevRef τ sig) (h : b ≠ Proc.devRef .tc main_v11) : Wv' m c b = Wv m c b := Function.update_of_ne h ..
theorem Wv'_keep (c : Dev nD) (r : Ref sig .tc) (h : r ≠ main_v11) : Wv' m c (Proc.devRef .tc r) = V m c r :=
  Wv'_ne m c _ (StableHlo.devRef_ne_of_ne h)
theorem Wv'_out (c : Dev nD) : Wv' m c (Proc.devRef .tc main_v11) = resOf m c := Function.update_self ..

theorem arr_in (c : Dev nD) (w : Fin (Pipeline.pin (pcfgs (F := F)) adm 0).W) :
    (pdats (F := F) m 0 c).arrAt w 0 = Wv m c (Proc.devRef .tc (Pipeline.arrRef (Pipeline.pin (pcfgs (F := F)) adm 0).spec w)) := rfl

theorem arr_end (c : Dev nD) (w : Fin (Pipeline.pin (pcfgs (F := F)) adm 0).W) :
    (pdats (F := F) m 0 c).arrAt w (Pipeline.pin (pcfgs (F := F)) adm 0).N
      = Wv' m c (Proc.devRef .tc (Pipeline.arrRef (Pipeline.pin (pcfgs (F := F)) adm 0).spec w)) := by
  match w with
  | ⟨0, _⟩ => exact ((dat0 (F := F) m c).arrAt_in 0 rfl _).trans (Wv'_keep m c main_arg0 (by decide)).symm
  | ⟨1, _⟩ => exact ((dat0 (F := F) m c).arrAt_in 1 rfl _).trans (Wv'_keep m c main_v8 (by decide)).symm
  | ⟨2, _⟩ => exact (arr_out m c).trans (Wv'_out m c).symm

/-! ## The buffers -/

abbrev arrs : Finset (DevRef τ sig) := Pipeline.arrRefs (τ := τ) spec0
/-- The buffers the body reads itself. -/
abbrev kvs : Finset (DevRef τ sig) := {Proc.devRef .tc main_v9, Proc.devRef .tc main_v10}
abbrev ucs : Finset (DevRef τ sig) := Pipeline.ucRefs τ sig

theorem arrs_sub : arrs ⊆ ucs := Pipeline.arrRefs_sub_ucRefs _ (by decide)
theorem kvs_sub : kvs ⊆ ucs \ arrs := by decide

theorem held_kvs (c : Dev nD) (W : Valuation τ sig (Elt F)) :
    (StableHlo.held (c.tc : Thread nD τ) kvs W : sProp 𝕄)
      = iprop(bpt kH c fullShare (W (Proc.devRef .tc main_v9)) ∗ bpt vH c fullShare (W (Proc.devRef .tc main_v10))) := by
  unfold StableHlo.held
  rw [bigSep_insert (by decide), bigSep_singleton, bpt_whole, bpt_whole]
  rfl
theorem held_in (c : Dev nD) : (StableHlo.held (c.tc : Thread nD τ) kvs (Wv m c) : sProp 𝕄) = pages m c := held_kvs c (Wv m c)
theorem held_out (c : Dev nD) : (StableHlo.held (c.tc : Thread nD τ) kvs (Wv' m c) : sProp 𝕄) = pages m c := by
  rw [held_kvs, Wv'_keep m c main_v9 (by decide), Wv'_keep m c main_v10 (by decide)]; rfl

/-! ## Levels -/

theorem lv_bar (c : Dev nD) : (0 : ℕ) < lv (cell c .bar) () :=
  (by decide : (0 : ℕ) < if Role.bar.sm = Role.bar.sm then 1 else if Role.bar.sm = Role.r0.sm ∨ Role.bar.sm = Role.r1.sm then 2 else 0)
theorem lv_r0 (c : Dev nD) : (0 : ℕ) < lv (cell c .r0) () :=
  (by decide : (0 : ℕ) < if Role.r0.sm = Role.bar.sm then 1 else if Role.r0.sm = Role.r0.sm ∨ Role.r0.sm = Role.r1.sm then 2 else 0)
theorem lv_r1 (c : Dev nD) : (0 : ℕ) < lv (cell c .r1) () :=
  (by decide : (0 : ℕ) < if Role.r1.sm = Role.bar.sm then 1 else if Role.r1.sm = Role.r0.sm ∨ Role.r1.sm = Role.r1.sm then 2 else 0)
theorem staging_low : ∀ (w : Fin 3) (s : Fin (win0 w).nbuf),
    (if SemLoc.dma ((win0 w).sem s) = Role.bar.sm then 1 else if SemLoc.dma ((win0 w).sem s) = Role.r0.sm ∨ SemLoc.dma ((win0 w).sem s) = Role.r1.sm then 2 else 0) ≤ 0 := by
  decide

theorem O₀_cases {c : Dev nD} {g : GSem nD τ sig} {u : Unit} (h : 0 < O₀ c g u) :
    g = cell (pr c) .r1 ∨ g = cell (pr c) .r0 ∨ g = cell (pr c) .bar := by
  have e : O₀ c g u = O₁ c g u + tallyAt (cell (pr c) .bar) () 1 g u := rfl
  rcases Nat.eq_zero_or_pos (O₁ c g u) with h1 | h1
  · rw [e, h1, Nat.zero_add, tallyAt_apply] at h
    split at h
    · next hg => exact .inr (.inr hg.1)
    · exact absurd h (Nat.lt_irrefl 0)
  · exact (O₁_cases h1).imp_right .inl

theorem dues_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_cases h with rfl | rfl | rfl
    · exact ⟨by rw [L_tc]; exact Finset.mem_singleton_self _, lv_r1 _⟩
    · exact ⟨by rw [L_tc]; exact Finset.mem_singleton_self _, lv_r0 _⟩
    · exact ⟨by rw [L_tc]; exact Finset.mem_singleton_self _, lv_bar _⟩
  · exact absurd h (Nat.lt_irrefl 0)

/-! ## The region's entry and exit -/

/-- What the launch keeps for the region, and what the region leaves. -/
def toRegion (c : Dev nD) : sProp 𝕄 := iprop((∃ K, ghost (oOf m) (lOf m) K c) ∗ waitCreds c)
def atBody (c : Dev nD) : sProp 𝕄 := iprop((∃ K, opened (oOf m) (lOf m) K c) ∗ waitCreds c ∗ levAts L lv ∗ rowSems c)
def barZero (c : Dev nD) : sProp 𝕄 := semVal (cell c .bar) 0

theorem region_open (c : Dev nD) :
    iprop(toRegion m c ∗ Pipeline.ownSems0 osem c ∗ levAts L lv) ⊢ (iprop(|={Set.univ}=> atBody m c) : sProp 𝕄) := by
  rw [ownSems_eq]
  unfold toRegion atBody talkSems ghost opened invs rowSems
  iintro ⟨⟨⟨%K, ⟨#IB, #I0, #I1, #J0, #J1, #PB, #P0, #P1⟩, HB, T0, T1, U0, U1, #HP, Hpay⟩, Hc⟩, ⟨Sk, Sv, Z0, Z1, Y0, Y1⟩, #Hlev⟩
  imod (Rounds.cell_open ER (sched (oOf m) (lOf m)) (g := cell c .s0) (Set.mem_univ (K (cell c .s0)))) $$ [T0 Z0] with ⟨A0, #R0⟩
  · isplitr; · iexact I0
    isplitl [T0] <;> iassumption
  imod (Rounds.cell_open ER (sched (oOf m) (lOf m)) (g := cell c .s1) (Set.mem_univ (K (cell c .s1)))) $$ [T1 Z1] with ⟨A1, #R1⟩
  · isplitr; · iexact I1
    isplitl [T1] <;> iassumption
  imod (Rounds.cell_open ER (sched (oOf m) (lOf m)) (g := cell c .r0) (Set.mem_univ (K (cell c .r0)))) $$ [U0 Y0] with ⟨A2, #R2⟩
  · isplitr; · iexact J0
    isplitl [U0] <;> iassumption
  imod (Rounds.cell_open ER (sched (oOf m) (lOf m)) (g := cell c .r1) (Set.mem_univ (K (cell c .r1)))) $$ [U1 Y1] with ⟨A3, #R3⟩
  · isplitr; · iexact J1
    isplitl [U1] <;> iassumption
  imodintro
  isplitl [HB A0 A1 A2 A3 Hpay]
  · iexists K
    isplitr
    · isplitr; · iexact IB
      isplitr; · iexact I0
      isplitr; · iexact I1
      isplitr; · iexact J0
      isplitr; · iexact J1
      isplitr; · iexact PB
      isplitr; · iexact P0
      iexact P1
    isplitl [HB]; · iexact HB
    isplitl [A0]; · isplitl [A0]; · iexact A0
                    iexact R0
    isplitl [A1]; · isplitl [A1]; · iexact A1
                    iexact R1
    isplitl [A2]; · isplitl [A2]; · iexact A2
                    iexact R2
    isplitl [A3]; · isplitl [A3]; · iexact A3
                    iexact R3
    isplitr; · iexact HP
    iexact Hpay
  isplitl [Hc]; · iexact Hc
  isplitr; · iexact Hlev
  isplitl [Sk] <;> iassumption

theorem region_in (c : Dev nD) :
    iprop(rest0 c ∗ (∃ r, prngReg c r) ∗ StableHlo.held (c.tc : Thread nD τ) kvs (Wv m c) ∗ atBody m c) ⊢ (inSt m c : sProp 𝕄) := by
  rw [held_in]
  unfold inSt atBody
  iintro ⟨Hr, Hp, Hk, Ho, Hc, #Hlev, Hs⟩
  isplitl [Ho Hc]
  · isplitl [Ho]; · iexact Ho
    isplitl [Hc]; · iexact Hc
    iexact Hlev
  isplitl [Hk]; · iexact Hk
  isplitl [Hs]; · iexact Hs
  isplitl [Hr] <;> iassumption

theorem region_out (c : Dev nD) :
    (outSt' m c : sProp 𝕄) ⊢ iprop(rest0 c ∗ (∃ r, prngReg c r) ∗ StableHlo.held (c.tc : Thread nD τ) kvs (Wv' m c)
      ∗ Pipeline.ownSems0 osem c ∗ barZero c) := by
  rw [held_out, ownSems_eq]
  unfold outSt' rowSems barZero
  iintro ⟨⟨Hb, Ht⟩, Hk, ⟨Sk, Sv⟩, Hr, Hp⟩
  isplitl [Hr]; · iexact Hr
  isplitl [Hp]; · iexact Hp
  isplitl [Hk]; · iexact Hk
  isplitl [Sk Sv Ht]
  · isplitl [Sk]; · iexact Sk
    isplitl [Sv] <;> iassumption
  iexact Hb

theorem kit : Pipeline.PLaunchFacts (nD := nD) (τ := τ) (pcfgs (F := F)) 0 := launch0.toP

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    kvs (ucs \ arrs) kvs_sub kit rfl (fun c => (body_obligation m c).loose)
    (fun _ => 0) O₀ (fun c => (show (pdats (F := F) m 0 c).owed 0 = O₀ c from rfl).trans (zero_add _).symm) (owed_last m) (fun _ => rfl) (fun c => (dat0 (F := F) m c).share_full fun _ => rfl)
    (Wv m) (Wv' m) (fun c b hb => Wv'_ne m c b fun h => by subst h; revert hb; decide)
    (toRegion m) barZero (atBody m) barZero (region_open m) (region_in m) (region_out m)
    (fun c => by iintro H; imodintro; iexact H)
    (fun _ => 0)
    ⟨fun c w s => by rw [L_tc]; exact Finset.mem_singleton_self _, fun c w s => staging_low w s, fun c t g i h => dues_above m c t g i h⟩
    (fun _ => iprop(emp))
    (arr_in m) (arr_end m)

end Cert.PagedAttn

end
-- ==== Proof.Deal.lean ====
/-
  What the launch deals: every cell's invariant, the barrier cells open and the four others of a device closed, every
  duty's token to the device that pays it, every credit to the device that waits with it.
-/
module

public import proofs.«01_k».proof.Proof.Entry

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens -/

/-- The roles whose cells a kernel opens itself, and all the roles. -/
abbrev copyRole : Fin 4 → Role := ![.s0, .s1, .r0, .r1]
abbrev anyRole : Fin 5 → Role := ![.bar, .r0, .r1, .s0, .s1]

theorem cell_inj {c d : Dev nD} {r r' : Role} (h : cell c r = cell d r') : c = d ∧ r = r' :=
  ⟨congrArg (fun g : GSem nD τ sig => g.1.1) h, sm_injective (congrArg Prod.snd h)⟩

def barCell : Dev nD ↪ GSem nD τ sig := ⟨fun c => cell c .bar, fun _ _ h => (cell_inj h).1⟩
def copyCell : Dev nD × Fin 4 ↪ GSem nD τ sig :=
  ⟨fun x => cell x.1 (copyRole x.2), fun x y h => Prod.ext (cell_inj h).1
    ((by decide : Function.Injective copyRole) (cell_inj h).2)⟩
def anyTok : Dev nD × Fin 5 ↪ GSem nD τ sig × ℕ × Unit :=
  ⟨fun x => (cell x.1 (anyRole x.2), 0, ()), fun x y h => Prod.ext (cell_inj (congrArg Prod.fst h)).1
    ((by decide : Function.Injective anyRole) (cell_inj (congrArg Prod.fst h)).2)⟩

abbrev barCells : Finset (GSem nD τ sig) := Finset.univ.map barCell
abbrev copyCells : Finset (GSem nD τ sig) := Finset.univ.map copyCell
abbrev allToks : Finset (GSem nD τ sig × ℕ × Unit) := Finset.univ.map anyTok

theorem cells_disjoint : Disjoint barCells copyCells := by
  rw [Finset.disjoint_left]
  intro g h h'
  obtain ⟨c, -, rfl⟩ := Finset.mem_map.mp h
  obtain ⟨⟨d, k⟩, -, e⟩ := Finset.mem_map.mp h'
  exact (by decide : ∀ k : Fin 4, copyRole k ≠ Role.bar) k (cell_inj e).2

theorem bar_in (c : Dev nD) : cell c .bar ∈ barCells ∪ copyCells :=
  Finset.mem_union_left _ (Finset.mem_map_of_mem barCell (Finset.mem_univ c))
theorem copy_in (c : Dev nD) (k : Fin 4) : cell c (copyRole k) ∈ barCells ∪ copyCells :=
  Finset.mem_union_right _ (Finset.mem_map_of_mem copyCell (Finset.mem_univ (c, k)))

/-- The launch's ghost state: the pipeline's, the protocol's, the counters'. -/
def dealt : URounds (GSem nD τ sig) Unit := launchOf barCells copyCells allToks
def u₀ : UU :=
  ((initOf (Pipeline.cells (Pipeline.pin (pcfgs (F := F)) adm) cellOf_inj) (Pipeline.launchToks (Pipeline.pin (pcfgs (F := F)) adm) cellOf_inj)),
    (dealt, 1))

/-- All of one resource, on device zero. -/
def atZero (X : sProp (MT nD τ sig Unit (Elt F) ℕ UU ℕ)) (c : Dev nD) : sProp 𝕄 := if c = 0 then X else iprop(emp)
theorem atZero_sum (X : sProp (MT nD τ sig Unit (Elt F) ℕ UU ℕ)) : bigSep Finset.univ (atZero X) = X := by
  rw [bigSep_univ_at _ (0 : Dev nD)]
  have h : bigSep (Finset.univ.erase (0 : Dev nD)) (atZero X) = bigSep (Finset.univ.erase (0 : Dev nD)) fun _ => (BI.emp : sProp 𝕄) :=
    bigSep_congr fun c hc => if_neg (Finset.ne_of_mem_erase hc)
  rw [h, BI.bigSep_emp_const, show atZero X 0 = X from if_pos rfl]
  exact BI.equiv_iff.mp sep_emp

abbrev Gd : Dev nD → sProp 𝕄 := atZero (BI.own (ER (F := F) dealt))

theorem split_u₀ : (ownU (u₀ (F := F)) : sProp 𝕄) ⊢ iprop(|={Set.univ}=>
    (BI.own (EP (initOf (Pipeline.cells (Pipeline.pin (pcfgs (F := F)) adm) cellOf_inj) (Pipeline.launchToks (Pipeline.pin (pcfgs (F := F)) adm) cellOf_inj)))
      ∗ bigSep Finset.univ (Gd (F := F)))) := by
  have h : (ownU (u₀ (F := F)) : sProp 𝕄) ⊢ iprop(
      BI.own (EP (initOf (Pipeline.cells (Pipeline.pin (pcfgs (F := F)) adm) cellOf_inj) (Pipeline.launchToks (Pipeline.pin (pcfgs (F := F)) adm) cellOf_inj)))
      ∗ BI.own (ER (F := F) dealt)) :=
    BI.own_op_elim ((uEmb (nD := nD) (sig := sig) (Ix := Unit) (Val := Elt F) (Name := ℕ) (U := UU) (Lvl := ℕ)).toEmb.op_of_mem
      (Prod.mk_mem_op (URA.mem_op_one _) (URA.mem_one_op (dealt, (1 : Counters)))))
  rw [atZero_sum]
  iintro H
  imodintro
  iapply h $$ H

/-! ## The records every device reads, and what a device keeps -/

variable (κ : GSem nD τ sig → ℕ) (c : Dev nD)

def shared : sProp 𝕄 :=
  iprop((bigSep (barCells ∪ copyCells) fun g => cellInv ER (sched (oOf m) (lOf m)) (κ g) g) ∗ bigSep barCells fun g => reached ER g 0)
instance shared_persistent : BI.Persistent (shared m κ) := by unfold shared; infer_instance

theorem shared_bar (d : Dev nD) : (bigSep (barCells ∪ copyCells) fun g => (cellInv ER (sched (oOf m) (lOf m)) (κ g) g : sProp 𝕄))
    ⊢ cellInv ER (sched (oOf m) (lOf m)) (κ (cell d .bar)) (cell d .bar) := bigSep_elim (bar_in d)
theorem shared_copy (d : Dev nD) (k : Fin 4) : (bigSep (barCells ∪ copyCells) fun g => (cellInv ER (sched (oOf m) (lOf m)) (κ g) g : sProp 𝕄))
    ⊢ cellInv ER (sched (oOf m) (lOf m)) (κ (cell d (copyRole k))) (cell d (copyRole k)) := bigSep_elim (copy_in d k)
theorem shared_reached (d : Dev nD) : (bigSep barCells fun g => (reached (ER (F := F)) g 0 : sProp 𝕄)) ⊢ reached ER (cell d .bar) 0 :=
  bigSep_elim (Finset.mem_map_of_mem barCell (Finset.mem_univ d))

/-- The rights to open a device's own four cells. -/
def openToks : sProp 𝕄 := iprop(openTok ER (cell c .s0) ∗ openTok ER (cell c .s1) ∗ openTok ER (cell c .r0) ∗ openTok ER (cell c .r1))
def kept : sProp 𝕄 := iprop(atPos ER (cell c .bar) 0 ∅ 0 ∗ openToks c ∗ payToks c)

theorem ghost_of : iprop(shared m κ ∗ kept c) ⊢ (iprop(∃ K, ghost (oOf m) (lOf m) K c) : sProp 𝕄) := by
  unfold shared kept openToks ghost invs
  iintro ⟨⟨#I, #R⟩, HB, ⟨T0, T1, U0, U1⟩, Hp⟩
  iexists κ
  isplitr
  · isplitr; · iapply (shared_bar m κ c); iexact I
    isplitr; · iapply (shared_copy m κ c 0); iexact I
    isplitr; · iapply (shared_copy m κ c 1); iexact I
    isplitr; · iapply (shared_copy m κ c 2); iexact I
    isplitr; · iapply (shared_copy m κ c 3); iexact I
    isplitr; · iapply (shared_bar m κ (pr c)); iexact I
    isplitr; · iapply (shared_copy m κ (pr c) 2); iexact I
    iapply (shared_copy m κ (pr c) 3); iexact I
  isplitl [HB]; · iexact HB
  isplitl [T0]; · iexact T0
  isplitl [T1]; · iexact T1
  isplitl [U0]; · iexact U0
  isplitl [U1]; · iexact U1
  isplitr; · iapply (shared_reached (F := F) (pr c)); iexact R
  iexact Hp

/-! ## The tokens, each to its payer -/

theorem bigSep_fin5 (Φ : Fin 5 → sProp (MT nD τ sig Unit (Elt F) ℕ UU ℕ)) : bigSep Finset.univ Φ = iprop(Φ 0 ∗ Φ 1 ∗ Φ 2 ∗ Φ 3 ∗ Φ 4) :=
  bigSep_univ_eq_bigSepL [0, 1, 2, 3, 4] (by decide) (by decide) Φ

/-- The partner as a permutation of the devices. -/
def swap : Dev nD ≃ Dev nD := ⟨pr, pr, pr_pr, pr_pr⟩

theorem toks_dealt :
    (bigSep allToks fun x => (dutyTok (ER (F := F)) x.1 x.2.1 x.2.2 : sProp 𝕄)) ⊢ bigSep Finset.univ fun c : Dev nD => (payToks c : sProp 𝕄) := by
  unfold payToks
  rw [bigSep_map, bigSep_univ_prod]
  simp only [bigSep_fin5, bigSep_sep']
  rw [bigSep_univ_equiv swap (fun c : Dev nD => (dutyTok (ER (F := F)) (anyTok (c, 0)).1 (anyTok (c, 0)).2.1 (anyTok (c, 0)).2.2 : sProp 𝕄)),
    bigSep_univ_equiv swap (fun c : Dev nD => (dutyTok (ER (F := F)) (anyTok (c, 1)).1 (anyTok (c, 1)).2.1 (anyTok (c, 1)).2.2 : sProp 𝕄)),
    bigSep_univ_equiv swap (fun c : Dev nD => (dutyTok (ER (F := F)) (anyTok (c, 2)).1 (anyTok (c, 2)).2.1 (anyTok (c, 2)).2.2 : sProp 𝕄))]
  exact BI.Entails.refl _

theorem opens_dealt :
    (bigSep copyCells fun g => (openTok (ER (F := F)) g : sProp 𝕄)) ⊢ bigSep Finset.univ fun c : Dev nD => (openToks c : sProp 𝕄) := by
  unfold openToks
  rw [bigSep_map, bigSep_univ_prod]
  exact Entails.of_eq (bigSep_congr fun c _ => bigSep_fin4 _)

theorem pos_dealt :
    (bigSep barCells fun g => (atPos (ER (F := F)) g 0 ∅ 0 : sProp 𝕄)) ⊢ bigSep Finset.univ fun c : Dev nD => (atPos (ER (F := F)) (cell c .bar) 0 ∅ 0 : sProp 𝕄) :=
  Entails.of_eq (bigSep_map (s := Finset.univ) barCell)

theorem zero_dealt :
    (bigSep Finset.univ fun c : Dev nD => (semVal (cell c .bar) 0 : sProp 𝕄)) ⊢ bigSep barCells fun g => (semVal g 0 : sProp 𝕄) :=
  Entails.of_eq (bigSep_map (s := Finset.univ) barCell (Φ := fun g => (semVal g 0 : sProp 𝕄))).symm

/-! ## The credits -/

omit [FloatOps F] in
/-- What device `d` owes on a cell of device `c`: the units of its role, if `d` is the partner and pays it. -/
theorem owed_at (d : Dev nD) (r : Role) (h : r = .bar ∨ r = .r0 ∨ r = .r1) : O₀ d (cell c r) () = if d = pr c then amt r else 0 := by
  have e : O₀ d (cell c r) () = tallyAt (cell (pr d) .r1) () Nl (cell c r) () + tallyAt (cell (pr d) .r0) () No (cell c r) () + tallyAt (cell (pr d) .bar) () 1 (cell c r) () := rfl
  have ht (r' : Role) (n : ℕ) : tallyAt (cell (pr d) r') () n (cell c r) () = if d = pr c ∧ r = r' then n else 0 := by
    rw [tallyAt_apply]
    by_cases hp : d = pr c ∧ r = r'
    · rw [if_pos hp, if_pos]
      obtain ⟨rfl, rfl⟩ := hp
      rw [pr_pr]; exact ⟨rfl, rfl⟩
    · rw [if_neg hp, if_neg]
      rintro ⟨e, -⟩
      obtain ⟨e1, e2⟩ := cell_inj e
      exact hp ⟨by rw [e1, pr_pr], e2⟩
  rw [e, ht, ht, ht]
  by_cases hd : d = pr c
  · rcases h with rfl | rfl | rfl <;> simp [hd, amt]
  · simp [hd]

theorem credit_at (r : Role) (h : r = .bar ∨ r = .r0 ∨ r = .r1) :
    tallyOn (cell c r) (launchCredit (Pipeline.owing O₀) 0 (cell c r)) = (tallyAt (cell c r) () (amt r) : CellTallies nD τ sig Unit) := by
  unfold tallyAt
  refine congrArg _ (Finsupp.ext fun u => ?_)
  cases u
  rw [Pipeline.launchCredit_owing, Finsupp.single_eq_same, Finset.sum_congr rfl fun d _ => owed_at c d r h,
    Finset.sum_ite_eq' Finset.univ (pr c) fun _ => amt r, if_pos (Finset.mem_univ _)]

theorem three_credits : (bigSep {Role.bar.sm, Role.r0.sm, Role.r1.sm} fun sm : SemLoc sig =>
      (cred (tallyOn ((c.tc, sm) : GSem nD τ sig) (launchCredit (Pipeline.owing O₀) 0 (c.tc, sm))) : sProp 𝕄)) = waitCreds c := by
  rw [bigSep_insert (by decide), bigSep_insert (by decide), bigSep_singleton]
  exact congrArg₂ BIBase.sep (congrArg cred (credit_at c .bar (.inl rfl)))
    (congrArg₂ BIBase.sep (congrArg cred (credit_at c .r0 (.inr (.inl rfl)))) (congrArg cred (credit_at c .r1 (.inr (.inr rfl)))))

theorem credits : (Pipeline.launchCred O₀ c : sProp 𝕄) ⊢ waitCreds c := by
  rw [← three_credits]
  exact bigSep_subset (Finset.subset_univ _)

end Cert.PagedAttn

end
-- ==== Proof.Launch.lean ====
/-
  The whole program run: three stretches of host operations, then the kernel's region.
-/
module

public import proofs.«01_k».proof.Proof.Deal

@[expose] public section

noncomputable section

namespace Cert.PagedAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

/-- What rides beside the buffers up to the region. -/
def riding (c : Dev nD) : sProp 𝕄 := iprop((toRegion m c ∗ ∃ r, prngReg c r) ∗ ∃ W, owes (c : Thread nD τ) (O₀ c) W)

def Wv0 (c : Dev nD) : Valuation τ sig (Elt F) := fun b => m (c, b)
def Wv1 (c : Dev nD) : Valuation τ sig (Elt F) := StableHlo.after hostOps0 (Wv0 m c)
def Wv2 (c : Dev nD) : Valuation τ sig (Elt F) := StableHlo.after hostOps0_1 (Wv1 m c)

theorem in_ucs {ops : List (HloOp τ sig (Elt F))} (h : ops.Forall fun op => op.bufs ⊆ StableHlo.tcRefs τ sig) : ∀ op ∈ ops, op.bufs ⊆ ucs :=
  fun op ho => Pipeline.sub_ucRefs op (List.forall_iff_forall_mem.mp h op ho)

abbrev Host := Pipeline.HostSeg (Name := ℕ) (U := UU) (pcfgs (F := F)) defs₀ 𝒱₀ L lv
def host0 : Host (F := F) :=
  Pipeline.HostSeg.ofOps _ _ _ _ _ ucs hostOps0 (in_ucs hostOps0_sub) (List.forall_iff_forall_mem.mp hostOps0_fresh) (Wv0 m) (riding m)
def host1 : Host (F := F) :=
  Pipeline.HostSeg.ofOps _ _ _ _ _ ucs hostOps0_1 (in_ucs hostOps0_1_sub) (List.forall_iff_forall_mem.mp hostOps0_1_fresh) (Wv1 m) (riding m)
def host2 : Host (F := F) :=
  Pipeline.HostSeg.ofOps _ _ _ _ _ ucs hostOps0_2 (in_ucs hostOps0_2_sub) (List.forall_iff_forall_mem.mp hostOps0_2_fresh) (Wv2 m) (riding m)

theorem after_host (c : Dev nD) : StableHlo.after hostOps0_2 (Wv2 m c) = Wv m c := rfl

def segs : List (Pipeline.Seg (pcfgs (F := F)) adm (pdats m) () defs₀ 𝒱₀ L lv) :=
  [.host (host0 m), .host (host1 m), .host (host2 m), .region (reg0 m)]

theorem main_segs (c : Dev nD) : main (F := F) c = Pipeline.Seg.run (segs m) := by
  rw [main_chain, Pipeline.Seg.run_eq_chain]; rfl

theorem into_region (c : Dev nD) : iprop(StableHlo.held (c.tc : Thread nD τ) ucs (Wv m c) ∗ riding m c) ⊢ (reg0 m).pre c := by
  show _ ⊢ iprop(StableHlo.held (c.tc : Thread nD τ) arrs (Wv m c) ∗ (∃ r, prngReg c r)
    ∗ (StableHlo.held (c.tc : Thread nD τ) (ucs \ arrs) (Wv m c) ∗ emp) ∗ toRegion m c ∗ ∃ Wd, owes (c : Thread nD τ) (0 + O₀ c) Wd)
  rw [StableHlo.held_sub_split (c.tc : Thread nD τ) arrs_sub (Wv m c), zero_add]
  unfold riding
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT] <;> iassumption

theorem from_region (c : Dev nD) : (reg0 m).post c
    ⊢ iprop((StableHlo.held (c.tc : Thread nD τ) ucs (Wv' m c) ∗ barZero c) ∗ ∃ W, owes (c : Thread nD τ) (0 : CellTallies nD τ sig Unit) W) := by
  show iprop(StableHlo.held (c.tc : Thread nD τ) arrs (Wv' m c) ∗ (∃ r, prngReg c r)
    ∗ (StableHlo.held (c.tc : Thread nD τ) (ucs \ arrs) (Wv' m c) ∗ emp) ∗ barZero c ∗ ∃ Wd, owes (c : Thread nD τ) (0 : CellTallies nD τ sig Unit) Wd) ⊢ _
  rw [StableHlo.held_sub_split (c.tc : Thread nD τ) arrs_sub (Wv' m c)]
  iintro ⟨Ha, -, ⟨Hr, -⟩, Hb, HO⟩
  isplitr [HO]; swap; · iexact HO
  isplitl [Ha Hr]; · isplitl [Ha] <;> iassumption
  iexact Hb

/-! ## The launch -/

theorem counters_eq (c : Dev nD) : (unscopedSems0 c : sProp 𝕄) = semVal (cell c .bar) 0 := by
  unfold unscopedSems0
  rw [show (Finset.univ.filter fun sm : SemLoc sig => ¬ sm.isScoped .tc) = {Role.bar.sm} from by decide, BI.bigSep_singleton]

/-- What a device holds at launch that is no ghost state. -/
def plain (c : Dev nD) : sProp 𝕄 :=
  iprop(StableHlo.held (c.tc : Thread nD τ) ucs (Wv0 m c) ∗ waitCreds c ∗ owes (c : Thread nD τ) (O₀ c) ∅ ∗ ∃ r, prngReg c r)

abbrev start (c : Dev nD) : sProp 𝕄 := iprop(StableHlo.held (c.tc : Thread nD τ) ucs (Wv0 m c) ∗ riding m c)

theorem start_of (κ : GSem nD τ sig → ℕ) (c : Dev nD) : iprop(shared m κ ∗ (kept c ∗ plain m c)) ⊢ start m c := by
  unfold plain start riding toRegion
  iintro ⟨#HS, Hk, Hh, Hc, HO, Hp⟩
  isplitl [Hh]; · iexact Hh
  isplitr [HO]
  · isplitr [Hp]; swap; · iexact Hp
    isplitl [Hk]
    · iapply (ghost_of m κ c)
      isplitr; · iexact HS
      iexact Hk
    iexact Hc
  iexists ∅; iexact HO

abbrev given (c : Dev nD) : sProp 𝕄 :=
  iprop(unscopedBufs c (fun b => m ((c : Thread nD τ).loc b)) ∗ unscopedSems0 c ∗ owes (c : Thread nD τ) (O₀ c) ∅
    ∗ Pipeline.launchCred O₀ c ∗ prngReg c (ρ c) ∗ Gd c)

theorem given_split (c : Dev nD) : given m ρ c ⊢ (iprop(plain m c ∗ (semVal (cell c .bar) 0 ∗ Gd c)) : sProp 𝕄) := by
  unfold given plain
  rw [show unscopedBufs c (fun b => m ((c : Thread nD τ).loc b)) = StableHlo.held (c.tc : Thread nD τ) ucs (Wv0 m c) from Pipeline.unscopedBufs_held c (Wv0 m c),
    counters_eq]
  iintro ⟨Hh, Hs, HO, Hc, Hp, HG⟩
  isplitr [Hs HG]
  · isplitl [Hh]; · iexact Hh
    isplitl [Hc]; · iapply (credits c) $$ Hc
    isplitl [HO]; · iexact HO
    iexists (ρ c); iexact Hp
  isplitl [Hs] <;> iassumption

theorem launched :
    iprop((bigSep Finset.univ fun c : Dev nD => given m ρ c) ∗ levAts L lv) ⊢ (iprop(|={Set.univ}=> bigSep Finset.univ (start m)) : sProp 𝕄) := by
  iintro ⟨H, -⟩
  ihave H := (show (bigSep Finset.univ fun c : Dev nD => given m ρ c)
      ⊢ (bigSep Finset.univ fun c : Dev nD => iprop(plain m c ∗ (semVal (cell c .bar) 0 ∗ Gd c)) : sProp 𝕄) from bigSep_mono fun c _ => given_split m ρ c) $$ H
  ihave H := (Entails.of_eq (bigSep_sep' (Finset.univ : Finset (Dev nD)) (plain m) fun c => iprop(semVal (cell c .bar) 0 ∗ Gd c))) $$ H
  icases H with ⟨HP, H⟩
  ihave H := (Entails.of_eq (bigSep_sep' (Finset.univ : Finset (Dev nD)) (fun c => (semVal (cell c .bar) 0 : sProp 𝕄)) Gd)) $$ H
  icases H with ⟨HZ, HG⟩
  ihave HG := (Entails.of_eq (atZero_sum (F := F) _)) $$ HG
  ihave HZ := zero_dealt $$ HZ
  unfold dealt
  imod (Rounds.fund_launch ER (sched (oOf m) (lOf m)) cells_disjoint (fun g _ h => h) allToks) $$ [HZ HG] with ⟨%κ, -, #HI, #HR, HA, HO, HT⟩
  · isplitl [HZ] <;> iassumption
  imodintro
  iapply (bigSep_with_persistent (R := shared m κ) (Φ := fun c => iprop(kept c ∗ plain m c)) fun c _ => start_of m κ c)
  isplitr
  · unfold shared
    isplitr; · iexact HI
    iexact HR
  iapply (Entails.of_eq (bigSep_sep' _ _ _).symm)
  isplitr [HP]; swap; · iexact HP
  unfold kept
  iapply (Entails.of_eq (bigSep_sep' _ _ _).symm)
  isplitl [HA]; · iapply pos_dealt $$ HA
  iapply (Entails.of_eq (bigSep_sep' _ _ _).symm)
  isplitl [HO]; · iapply opens_dealt $$ HO
  iapply toks_dealt $$ HT

/-! ## The run -/

/-- The buffers a claim reads. -/
abbrev claimed : Fin 6 → Ref sig .tc := ![main_arg0, main_arg1, main_arg2, main_arg3, main_arg4, main_v11]

theorem claimed_in (k : Fin 6) : (Proc.devRef .tc (claimed k) : DevRef τ sig) ∈ ucs := by
  revert k; decide

theorem read_one (c : Dev nD) (b : DevRef τ sig) (hb : b ∈ ucs) (s' : Phys nD τ sig (Elt F)) :
    iprop(StableHlo.held (c.tc : Thread nD τ) ucs (Wv' m c) ∗ SI s')
      ⊢ (iprop(⌜s'.mem.mem (c, b) = Wv' m c b⌝ ∗ StableHlo.held (c.tc : Thread nD τ) ucs (Wv' m c) ∗ SI s') : sProp 𝕄) := by
  have he : (StableHlo.held (c.tc : Thread nD τ) ucs (Wv' m c) : sProp 𝕄)
      = iprop(((c, b) ↦{fullShare} Wv' m c b) ∗ bigSep (ucs.erase b) fun b' : DevRef τ sig => (((c, b') ↦{fullShare} Wv' m c b') : sProp 𝕄)) := bigSep_erase hb
  rw [he]
  iintro ⟨⟨Hb, Hr⟩, HSI⟩
  icombine HSI Hb gives %h
  isplitr
  · ipureintro; exact Buf.eq_of_forall_mem_univ h
  isplitl [Hb Hr]
  · isplitl [Hb] <;> iassumption
  iexact HSI

theorem bar_only : ∀ sm : SemLoc sig, sm.isScoped .tc = false → sm = Role.bar.sm := by decide

/-- What is read off the end of the run on one device. -/
def Ends (c : Dev nD) (s : MemSt nD τ sig (Elt F)) : Prop :=
  (∀ k : Fin 6, s.mem (c, Proc.devRef .tc (claimed k)) = Wv' m c (Proc.devRef .tc (claimed k))) ∧ s.sem (cell c .bar) = 0

theorem reads (c : Dev nD) (s' : Phys nD τ sig (Elt F)) :
    iprop((StableHlo.held (c.tc : Thread nD τ) ucs (Wv' m c) ∗ barZero c) ∗ SI s')
      ⊢ (iprop(|={Set.univ}=> (⌜Ends m c s'.mem⌝ ∗ SI s')) : sProp 𝕄) := by
  unfold barZero
  iintro ⟨⟨Hh, Hb⟩, HSI⟩
  icombine HSI Hb gives %hb
  ihave ⟨%h0, Hh, HSI⟩ := (read_one m c _ (claimed_in 0) s') $$ [Hh HSI]
  · isplitl [Hh] <;> iassumption
  ihave ⟨%h1, Hh, HSI⟩ := (read_one m c _ (claimed_in 1) s') $$ [Hh HSI]
  · isplitl [Hh] <;> iassumption
  ihave ⟨%h2, Hh, HSI⟩ := (read_one m c _ (claimed_in 2) s') $$ [Hh HSI]
  · isplitl [Hh] <;> iassumption
  ihave ⟨%h3, Hh, HSI⟩ := (read_one m c _ (claimed_in 3) s') $$ [Hh HSI]
  · isplitl [Hh] <;> iassumption
  ihave ⟨%h4, Hh, HSI⟩ := (read_one m c _ (claimed_in 4) s') $$ [Hh HSI]
  · isplitl [Hh] <;> iassumption
  ihave ⟨%h5, Hh, HSI⟩ := (read_one m c _ (claimed_in 5) s') $$ [Hh HSI]
  · isplitl [Hh] <;> iassumption
  imodintro
  isplitr
  · ipureintro
    refine ⟨?_, by simpa using hb⟩
    intro k
    match k with
    | 0 => exact h0
    | 1 => exact h1
    | 2 => exact h2
    | 3 => exact h3
    | 4 => exact h4
    | 5 => exact h5
  iexact HSI

/-- What every final state of the program says. -/
def Final (r : PUnit × MemSt nD τ sig (Elt F)) : Prop :=
  (∀ c : Dev nD, (r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4)) ∧ r.2.mem (c.tc.loc main_v11) = resOf m c) ∧ r.2.sem = fun _ => 0

theorem Final_of (s : MemSt nD τ sig (Elt F)) (h : ∀ c, Ends m c s)
    (hs : ∀ g' : GSem nD τ sig, (g'.1.2 ≠ .tc ∨ g'.2.isScoped .tc = true) → s.sem g' = 0) : Final m (⟨⟩, s) := by
  refine ⟨fun c => ?_, sem_eq_zero hs fun c sm hsm => ?_⟩
  · obtain ⟨hr, -⟩ := h c
    refine ⟨⟨?_, ?_, ?_, ?_, ?_⟩, ?_⟩
    · exact (hr 0).trans ((Wv'_keep m c main_arg0 (by decide)).trans (V_main_arg0 m c))
    · exact (hr 1).trans ((Wv'_keep m c main_arg1 (by decide)).trans (V_main_arg1 m c))
    · exact (hr 2).trans ((Wv'_keep m c main_arg2 (by decide)).trans (V_main_arg2 m c))
    · exact (hr 3).trans ((Wv'_keep m c main_arg3 (by decide)).trans (V_main_arg3 m c))
    · exact (hr 4).trans ((Wv'_keep m c main_arg4 (by decide)).trans (V_main_arg4 m c))
    · exact (hr 5).trans (Wv'_out m c)
  · obtain rfl := bar_only sm hsm
    exact (h c).2

set_option backward.isDefEq.respectTransparency.types false in
/-- THE RUN: from any memory with zero counters every fair execution of the program on all devices ends, and the end is `Final`. -/
theorem run_main : θ_run defs (onTc (τ := τ) (main (F := F))) ⟨m, fun _ => 0, ρ⟩ (Final m) :=
  Pipeline.θ_run_regions_kit_sems (pcfgs (F := F)) adm (pdats m) () cellOf_inj EP defs₀ 𝒱₀ L lv m ρ main (segs m)
    (fun c Q => by rw [main_segs m c])
    (by simp only [segs, Pipeline.Seg.pipes_host, Pipeline.Seg.pipes_region, Pipeline.Seg.pipes_nil]; decide)
    (O₀ := O₀) (hL := L_of_ne) (G := Gd) (u₀ := u₀) (hu₀ := split_u₀)
    (T₀ := start m) (Tₙ := fun c => iprop(StableHlo.held (c.tc : Thread nD τ) ucs (Wv' m c) ∗ barZero c))
    (hch := ⟨fun _ => .rfl, fun _ => .rfl, fun _ => .rfl, fun c => into_region m c, fun c => from_region m c⟩)
    (hinit := launched m ρ)
    (QY := Ends m)
    (hfin := reads m)
    (hQ := Final_of m)

end Cert.PagedAttn

end
-- ==== Proof.SameText.lean ====
/-
  The kernel as printed and the kernel as read over the extended reals are one text: their tables of bodies agree.
-/
module

public import proofs.«01_k».proof.Proof.Gen.Kernel
public import proofs.«01_k».proof.Proof.Gen.KernelIdeal

@[expose] public section

noncomputable section

namespace Cert.PagedAttn

open Idealize.ShloMosaic

variable {F : FTy → Type} [FloatOps F]

theorem same_body (a0) (h0) (a1) (h1) (a2) (h2) (a3) (h3) (a4) (h4) (a5) (h5) (a6) (h6) (a7) (h7) (a8) (h8) (a9) (h9) (a10) (h10) (a11 a12 a13 a14) :
    Cert.Kernel.cc0__body (F := F) a0 h0 a1 h1 a2 h2 a3 h3 a4 h4 a5 h5 a6 h6 a7 h7 a8 h8 a9 h9 a10 h10 a11 a12 a13 a14
      = Cert.KernelIdeal.cc0__body (F := F) a0 h0 a1 h1 a2 h2 a3 h3 a4 h4 a5 h5 a6 h6 a7 h7 a8 h8 a9 h9 a10 h10 a11 a12 a13 a14 := rfl

theorem same_table : Cert.Kernel.defs₀ (F := F) = Cert.KernelIdeal.defs₀ := by
  unfold Kernel.defs₀ KernelIdeal.defs₀
  refine congrArg Defs.onTc (funext fun l => ?_)
  match l with
  | 0 => exact funext fun | (t, s) => same_body _ _ _ _ _ _ _ _ _ _ _ _ _ _ _ _ _ _ _ _ _ _ _ _ _ _

theorem same_defs : Cert.Kernel.defs (F := F) = Cert.KernelIdeal.defs := congrArg (Pipeline.defs _) same_table

end Cert.PagedAttn

end
-- ==== Proof.KernelValue.lean ====
module

public import proofs.«01_k».proof.Proof.Entry
public import Idealize.ShloMosaic.Lib.Pointwise
public import Idealize.ShloMosaic.Lib.StableHlo.ReadAt

/-! The kernel's result, read element by element over the extended reals. -/

@[expose] public section

set_option maxRecDepth 16384

noncomputable section

namespace Cert.PagedAttn

open Cert.KernelIdeal Cert.KernelIdeal.Gen
open Idealize.ShloMosaic Idealize.ShloMosaic.TcCoe

/-- The share of one page row in the sums: the weighed exponential of its score. -/
theorem pay5_read (w : S1x16x128.Idx → EReal) (q : S16x16x64.Idx → EReal) (kr : S1x16x64x128.Idx → EReal) (h b : Fin 16) (p : Fin 128) :
    k0_pay5 (F := Ideal) w q kr (ix3 h b p) = Ideal.exp (∑ d : Fin 64, q (ix3 h b d) * kr (ix4 0 h d p)) * w (ix3 0 b p) := by
  pointwise [k0_pay5]

theorem pay55_read (w : S1x16x128.Idx → EReal) (q : S16x16x64.Idx → EReal) (kr : S1x16x64x128.Idx → EReal) (h b : Fin 16) (p : Fin 128) :
    k0_pay55 (F := Ideal) w q kr (ix3 h b p) = k0_pay5 (F := Ideal) w q kr (ix3 h b p) := by
  rw [pay5_read]
  pointwise [k0_pay55]

theorem pay6_read (w : S1x16x128.Idx → EReal) (q : S16x16x64.Idx → EReal) (l : S16x16x1.Idx → EReal) (kr : S1x16x64x128.Idx → EReal) (h b : Fin 16) :
    k0_pay6 (F := Ideal) w q l kr (ix3 h b 0) = l (ix3 h b 0) + ∑ p : Fin 128, k0_pay5 (F := Ideal) w q kr (ix3 h b p) := by
  pointwise [k0_pay6]

theorem pay7_read (w : S1x16x128.Idx → EReal) (q : S16x16x64.Idx → EReal) (o : S16x16x64.Idx → EReal) (kr vr : S1x16x64x128.Idx → EReal) (h b : Fin 16)
    (d : Fin 64) :
    k0_pay7 (F := Ideal) w q o kr vr (ix3 h b d) = o (ix3 h b d) + ∑ p : Fin 128, k0_pay5 (F := Ideal) w q kr (ix3 h b p) * vr (ix4 0 h d p) := by
  pointwise [k0_pay7]

/-- The normaliser, the last token added, stored batch first. -/
theorem pay57_read (w : S1x16x128.Idx → EReal) (q : S16x16x64.Idx → EReal) (l : S16x16x1.Idx → EReal) (kr : S1x16x64x128.Idx → EReal) (h b : Fin 16) :
    k0_pay57 (F := Ideal) w q l kr (ix2 b h) = l (ix3 h b 0) + ∑ p : Fin 128, k0_pay5 (F := Ideal) w q kr (ix3 h b p) := by
  pointwise [k0_pay57]
  simp only [pay55_read]

theorem pay56_read (w : S1x16x128.Idx → EReal) (q : S16x16x64.Idx → EReal) (o : S16x16x64.Idx → EReal) (kr vr : S1x16x64x128.Idx → EReal) (h b : Fin 16)
    (d : Fin 64) :
    k0_pay56 (F := Ideal) w q o kr vr (ix3 h b d) = o (ix3 h b d) + ∑ p : Fin 128, k0_pay5 (F := Ideal) w q kr (ix3 h b p) * vr (ix4 0 h d p) := by
  pointwise [k0_pay56]
  simp only [pay55_read]

theorem pay2_read (q : S16x1x16x64.Idx → EReal) (h b : Fin 16) (d : Fin 64) :
    k0_pay2 (F := Ideal) q (ix3 h b d) = q (ix4 b 0 h d) * Ideal.ofBits .f32 0x3E000000#32 := by
  pointwise [k0_pay2]

/-- The weight of a page: how many live places of the sequence name it, times a constant. -/
theorem pay1_read (y : BitVec 32) (bv : S16x128x1.Idx → BitVec 32) (b : Fin 16) (p : Fin 128) :
    k0_pay1 (F := Ideal) y bv (ix3 0 b p)
      = (∑ j : Fin 128, ((((IntOp.cmpi .eq (bv (ix3 b j 0)) (BitVec.ofNat 32 p.val + y * 128#32)).setWidth 32).toInt : ℝ) : EReal))
        * Ideal.exp (Ideal.ofBits .f32 0xC1400000#32) := by
  pointwise [k0_pay1]
  rfl

/-! ## The accumulators as sums over the rows -/

theorem lAcc_read (w : S1x16x128.Idx → EReal) (q : S16x16x64.Idx → EReal) (kr : ℕ → S1x16x64x128.Idx → EReal) (h b : Fin 16) (n : ℕ) :
    lAcc (F := Ideal) w q kr n (ix3 h b 0) = ∑ t ∈ Finset.range n, ∑ p : Fin 128, k0_pay5 (F := Ideal) w q (kr t) (ix3 h b p) := by
  induction n with
  | zero =>
    unfold lAcc
    pointwise [k0_pay4]
    simp
  | succ n ih => rw [Finset.sum_range_succ, ← ih]; exact pay6_read w q _ (kr n) h b

theorem oAcc_read (w : S1x16x128.Idx → EReal) (q : S16x16x64.Idx → EReal) (kr vr : ℕ → S1x16x64x128.Idx → EReal) (h b : Fin 16) (d : Fin 64) (n : ℕ) :
    oAcc (F := Ideal) w q kr vr n (ix3 h b d)
      = ∑ t ∈ Finset.range n, ∑ p : Fin 128, k0_pay5 (F := Ideal) w q (kr t) (ix3 h b p) * vr t (ix4 0 h d p) := by
  induction n with
  | zero =>
    unfold oAcc
    pointwise [k0_pay3]
    simp
  | succ n ih => rw [Finset.sum_range_succ, ← ih]; exact pay7_read w q _ (kr n) (vr n) h b d

/-- A row of the pages read as the page array itself. -/
theorem row_emb (n h : Fin 16) (d : Fin 64) (p : Fin 128) : (rowR n.val (rowIn_of_lt n.isLt)).emb (ix4 0 h d p) = ix4 n h d p := by
  refine funext fun a => Fin.ext ?_
  rw [Rect.emb_apply]
  fin_cases a <;> simp [ix4, rowR]

theorem rowV_K (ks : S16x16x64x128.Idx → EReal) (c : Dev nD) (n h : Fin 16) (d : Fin 64) (p : Fin 128) :
    rowV (F := Ideal) kH c ks n.val (ix4 0 h d p) = ks (ix4 n h d p) := by
  unfold rowV
  rw [dif_pos n.isLt]
  exact congrArg ks (row_emb n h d p)

theorem rowV_V (vs : S16x16x64x128.Idx → EReal) (c : Dev nD) (n h : Fin 16) (d : Fin 64) (p : Fin 128) :
    rowV (F := Ideal) vH c vs n.val (ix4 0 h d p) = vs (ix4 n h d p) := by
  unfold rowV
  rw [dif_pos n.isLt]
  exact congrArg vs (row_emb n h d p)

/-- What a key row and a page's weight add to the normaliser. -/
def share (w : S1x16x128.Idx → EReal) (q : S16x16x64.Idx → EReal) (ks : S16x16x64x128.Idx → EReal) (h b t : Fin 16) (p : Fin 128) : EReal :=
  Ideal.exp (∑ d : Fin 64, q (ix3 h b d) * ks (ix4 t h d p)) * w (ix3 0 b p)

theorem pay5_row (w : S1x16x128.Idx → EReal) (q : S16x16x64.Idx → EReal) (ks : S16x16x64x128.Idx → EReal) (c : Dev nD) (h b t : Fin 16) (p : Fin 128) :
    k0_pay5 (F := Ideal) w q (rowV (F := Ideal) kH c ks t.val) (ix3 h b p) = share w q ks h b t p := by
  rw [pay5_read]
  simp only [rowV_K, share]

theorem lSend_read (w : S1x16x128.Idx → EReal) (q : S16x16x64.Idx → EReal) (ks : S16x16x64x128.Idx → EReal) (c : Dev nD) (h b : Fin 16) :
    lSend (F := Ideal) c ks w q (ix2 b h) = ∑ t : Fin 16, ∑ p : Fin 128, share w q ks h b t p := by
  refine (pay57_read w q _ _ h b).trans ?_
  show lAcc (F := Ideal) w q (rowV (F := Ideal) kH c ks) 15 (ix3 h b 0) + _ = _
  rw [lAcc_read, ← Finset.sum_range_succ (fun t => ∑ p : Fin 128, k0_pay5 (F := Ideal) w q (rowV (F := Ideal) kH c ks t) (ix3 h b p)) 15, Finset.sum_range]
  exact Finset.sum_congr rfl fun t _ => Finset.sum_congr rfl fun p _ => pay5_row w q ks c h b t p

theorem oSend_read (w : S1x16x128.Idx → EReal) (q : S16x16x64.Idx → EReal) (ks vs : S16x16x64x128.Idx → EReal) (c : Dev nD) (h b : Fin 16) (d : Fin 64) :
    oSend (F := Ideal) c ks vs w q (ix3 h b d) = ∑ t : Fin 16, ∑ p : Fin 128, share w q ks h b t p * vs (ix4 t h d p) := by
  refine (pay56_read w q _ _ _ h b d).trans ?_
  show oAcc (F := Ideal) w q (rowV (F := Ideal) kH c ks) (rowV (F := Ideal) vH c vs) 15 (ix3 h b d) + _ = _
  rw [oAcc_read, ← Finset.sum_range_succ
    (fun t => ∑ p : Fin 128, k0_pay5 (F := Ideal) w q (rowV (F := Ideal) kH c ks t) (ix3 h b p) * rowV (F := Ideal) vH c vs t (ix4 0 h d p)) 15, Finset.sum_range]
  exact Finset.sum_congr rfl fun t _ => Finset.sum_congr rfl fun p _ =>
    congr (congrArg HMul.hMul (pay5_row w q ks c h b t p)) (rowV_V vs c t h d p)

theorem head_emb (b h : Fin 16) (d : Fin 64) : (headR h.val (headIn_of_lt h.isLt)).emb (ix3 0 b d) = ix3 h b d := by
  refine funext fun a => Fin.ext ?_
  rw [Rect.emb_apply]
  fin_cases a <;> simp [ix3, headR]

theorem outV_read (l : S16x16.Idx → EReal) (o o' : S16x16x64.Idx → EReal) (b h : Fin 16) (d : Fin 64) :
    outV (F := Ideal) l o o' (ix4 b 0 h d) = Ideal.div (o (ix3 h b d) + o' (ix3 h b d)) (l (ix2 b h)) := by
  rw [← head_emb b h d]
  unfold outV headU headO
  simp only [ix4_2, h.isLt, dite_true]
  pointwise

theorem pay58_read (l l' : S16x16.Idx → EReal) (b h : Fin 16) :
    k0_pay58 (F := Ideal) l l' (ix2 b h) = l (ix2 b h) + l' (ix2 b h) := by
  pointwise [k0_pay58]

/-! ## What the region reads, from the arguments -/

variable (m : (ℓ : Loc nD τ sig) → Buf (Elt Ideal) ℓ) (c : Dev nD)

/-- A device's arguments, at their own types. -/
abbrev argQ : S16x1x16x64.Idx → EReal := m ((c.tc : Thread nD τ).loc main_arg0)
abbrev argK : S128x16x16x64.Idx → EReal := m ((c.tc : Thread nD τ).loc main_arg1)
abbrev argV : S128x16x16x64.Idx → EReal := m ((c.tc : Thread nD τ).loc main_arg2)
abbrev argT : S16x128.Idx → BitVec 32 := m ((c.tc : Thread nD τ).loc main_arg3)
abbrev argN : S16.Idx → BitVec 32 := m ((c.tc : Thread nD τ).loc main_arg4)

/-- A choice by a truth value held as a word of one bit. -/
theorem select_bool {α : Type} (x : Bool) (u v : α) : Scalar.select (BitVec.ofBool x) u v = if x = true then u else v := by
  cases x <;> rfl

theorem kIn_read (t h : Fin 16) (d : Fin 64) (p : Fin 128) :
    kIn m c (ix4 t h d p) = argK m c (ix4 p t h d) := by
  unfold kIn V
  after_reads_at

theorem vIn_read (t h : Fin 16) (d : Fin 64) (p : Fin 128) :
    vIn m c (ix4 t h d p) = argV m c (ix4 p t h d) := by
  unfold vIn V
  after_reads_at

/-- The table the region reads: a live place's page, and all ones at a place past the sequence's end. -/
theorem bIn_read (b : Fin 16) (j : Fin 128) :
    bIn m c (ix3 b j 0) = if (BitVec.ofNat 32 j.val).slt (argN m c (ix1 b)) = true
      then argT m c (ix2 b j) else 4294967295#32 := by
  rw [bIn_eq]
  unfold V
  after_reads_at
  exact select_bool _ _ _

/-! ## A device's partial sums, and its result -/

theorem qIn_read (h b : Fin 16) (d : Fin 64) :
    k0_pay2 (F := Ideal) (qIn m c) (ix3 h b d) = argQ m c (ix4 b 0 h d) * Ideal.ofBits .f32 0x3E000000#32 := by
  rw [pay2_read, qIn_eq, V_main_arg0]

theorem resOf_read (b h : Fin 16) (d : Fin 64) :
    resOf (F := Ideal) m c (ix4 b 0 h d)
      = Ideal.div (oOf (F := Ideal) m c (ix3 h b d) + oOf (F := Ideal) m (pr c) (ix3 h b d)) (lOf (F := Ideal) m c (ix2 b h) + lOf (F := Ideal) m (pr c) (ix2 b h)) := by
  unfold resOf uOf
  rw [outV_read, pay58_read]

theorem lOf_read (b h : Fin 16) :
    lOf (F := Ideal) m c (ix2 b h)
      = ∑ t : Fin 16, ∑ p : Fin 128, share (wOf (F := Ideal) c (bIn m c)) (k0_pay2 (F := Ideal) (qIn m c)) (kIn m c) h b t p :=
  lSend_read _ _ _ c h b

theorem oOf_read (b h : Fin 16) (d : Fin 64) :
    oOf (F := Ideal) m c (ix3 h b d)
      = ∑ t : Fin 16, ∑ p : Fin 128, share (wOf (F := Ideal) c (bIn m c)) (k0_pay2 (F := Ideal) (qIn m c)) (kIn m c) h b t p * vIn m c (ix4 t h d p) :=
  oSend_read _ _ _ _ c h b d

end Cert.PagedAttn

end
-- ==== Proof.RefValue.lean ====
module

public import proofs.«01_k».proof.Proof.Gen.ReferenceIdeal.Run
public import Idealize.ShloMosaic.Lib.Pointwise

/-! The reference's result, read element by element over the extended reals. -/

@[expose] public section

set_option maxRecDepth 16384

noncomputable section

namespace Cert.PagedRef

open Cert.ReferenceIdeal Cert.ReferenceIdeal.Gen
open Idealize.ShloMosaic Idealize.ShloMosaic.TcCoe

/-- The page looked up for each place of each request: a negative number counts from the end. -/
def pageIdx (bt : S16x128.Idx → BitVec 32) : S16x128x1.Idx → BitVec 32 :=
  broadcastInDim S16x128x1 ![0, 1] bcast_S16x128_S16x128x1_0_1
    (select (cmpi .slt bt (broadcastInDim S16x128 ![] bcast_S_S16x128 (constantI S_ 32 0#32)))
      (addi bt (broadcastInDim S16x128 ![] bcast_S_S16x128 (constantI S_ 32 256#32))) bt)

/-- The rows of the pages looked up, one after the other. -/
def rowsOf (X : S256x16x16x64.Idx → EReal) (bt : S16x128.Idx → BitVec 32) : S16x2048x16x64.Idx → EReal :=
  shapeCast _ (Host.gather gather_S256x16x16x64_S16x128x1_S16x128x16x16x64_234_0_n_n_0_2_1161664 X (pageIdx bt))
    shapeCasts_S16x128x16x16x64_S16x2048x16x64

/-- The number of the page's place that holds each row. -/
def placeOf : S1x2048.Idx → BitVec 32 :=
  select (andi (cmpi .ne (signi (broadcastInDim S1x2048 ![1] bcast_S2048_S1x2048_1 (iotaInDim S2048 32 0)))
      (broadcastInDim S1x2048 ![] bcast_S_S1x2048 (signi (id (constantI S_ 32 16#32)))))
    (cmpi .ne (Host.remsi (broadcastInDim S1x2048 ![1] bcast_S2048_S1x2048_1 (iotaInDim S2048 32 0))
      (broadcastInDim S1x2048 ![] bcast_S_S1x2048 (id (constantI S_ 32 16#32)))) (broadcastInDim S1x2048 ![] bcast_S_S1x2048 (constantI S_ 32 0#32))))
    (subi (Host.divsi (broadcastInDim S1x2048 ![1] bcast_S2048_S1x2048_1 (iotaInDim S2048 32 0))
      (broadcastInDim S1x2048 ![] bcast_S_S1x2048 (id (constantI S_ 32 16#32)))) (broadcastInDim S1x2048 ![] bcast_S_S1x2048 (constantI S_ 32 1#32)))
    (Host.divsi (broadcastInDim S1x2048 ![1] bcast_S2048_S1x2048_1 (iotaInDim S2048 32 0))
      (broadcastInDim S1x2048 ![] bcast_S_S1x2048 (id (constantI S_ 32 16#32))))

/-- Whether a row lies on a page that the request lists. -/
def liveOf (lens : S16.Idx → BitVec 32) : S16x16x2048.Idx → BitVec 1 :=
  broadcastInDim S16x16x2048 ![0, 1, 2] bcast_S16x1x2048_S16x16x2048_0_1_2
    (broadcastInDim S16x1x2048 ![0, 2] bcast_S16x2048_S16x1x2048_0_2
      (cmpi .slt (broadcastInDim S16x2048 ![0, 1] bcast_S1x2048_S16x2048_0_1 placeOf)
        (broadcastInDim S16x2048 ![0, 1] bcast_S16x1_S16x2048_0_1 (broadcastInDim S16x1 ![0] bcast_S16_S16x1_0 lens))))

/-- The masked scores. -/
def scoreOf (Q : S16x1x16x64.Idx → EReal) (K : S256x16x16x64.Idx → EReal) (bt : S16x128.Idx → BitVec 32)
    (lens : S16.Idx → BitVec 32) : S16x16x2048.Idx → EReal :=
  select (liveOf lens)
    (mulf (F := Ideal) (φ := .f32) (Host.dotGeneral (F := Ideal) (φ₁ := .f32) (φ₂ := .f32) dot_S16x16x64_S16x2048x16x64_S16x16x2048_2_3_n_1_01_02 none
        (shapeCast _ Q shapeCasts_S16x1x16x64_S16x16x64) (rowsOf K bt))
      (broadcastInDim S16x16x2048 ![] bcast_S_S16x16x2048 (constant S_ .f32 0x3E000000#32)))
    (broadcastInDim S16x16x2048 ![] bcast_S_S16x16x2048 (id (constant (F := Ideal) S_ .f32 0xFF800000#32)))

/-- The largest score of a request and head. -/
def maxOf (S : S16x16x2048.Idx → EReal) : S16x16.Idx → EReal :=
  Host.reduce (FloatOps.maximumf (F := Ideal) (φ := .f32)) S (constant (F := Ideal) S_ .f32 0xFF800000#32) reducesTo_S16x16x2048_S16x16_d2 h_S_

/-- The exponentials of the scores, measured from the largest. -/
def expOf (S : S16x16x2048.Idx → EReal) : S16x16x2048.Idx → EReal :=
  Host.exp (F := Ideal) (φ := .f32) (subf S (broadcastInDim S16x16x2048 ![0, 1, 2] bcast_S16x16x1_S16x16x2048_0_1_2
    (broadcastInDim S16x16x1 ![0, 1] bcast_S16x16_S16x16x1_0_1 (maxOf S))))

/-- The softmax weights. -/
def weightOf (E : S16x16x2048.Idx → EReal) : S16x16x2048.Idx → EReal :=
  Host.divf (F := Ideal) (φ := .f32) E (broadcastInDim S16x16x2048 ![0, 1, 2] bcast_S16x16x1_S16x16x2048_0_1_2
    (broadcastInDim S16x16x1 ![0, 1] bcast_S16x16_S16x16x1_0_1
      (Host.reduceAdd (F := Ideal) (φ := .f32) E (constant (F := Ideal) S_ .f32 0x00000000#32) reducesTo_S16x16x2048_S16x16_d2 h_S_)))

/-- The weighted sum of the value rows. -/
def outOf (W : S16x16x2048.Idx → EReal) (V : S16x2048x16x64.Idx → EReal) : S16x1x16x64.Idx → EReal :=
  shapeCast _ (Host.dotGeneral (F := Ideal) (φ₁ := .f32) (φ₂ := .f32) dot_S16x16x2048_S16x2048x16x64_S16x16x64_2_1_n_3_01_02 none W V) shapeCasts_S16x16x64_S16x1x16x64

theorem res_eq (m : (ℓ : Loc nD τ sig) → Buf (Elt Ideal) ℓ) (c : Dev nD) :
    Cert.ReferenceIdeal.Value.res_main_v39 (F := Ideal) m c
      = outOf (weightOf (expOf (scoreOf (m ((c.tc : Thread nD τ).loc main_arg0)) (m ((c.tc : Thread nD τ).loc main_arg1))
          (m ((c.tc : Thread nD τ).loc main_arg3)) (m ((c.tc : Thread nD τ).loc main_arg4)))))
        (rowsOf (m ((c.tc : Thread nD τ).loc main_arg2)) (m ((c.tc : Thread nD τ).loc main_arg3))) := rfl

/-- The page gather's dimension numbers, by a short name. -/
abbrev gd := gather_S256x16x16x64_S16x128x1_S16x128x16x16x64_234_0_n_n_0_2_1161664

/-- A coordinate of the gather's result, at an axis known by an equation. -/
theorem ix5_at (b : Fin 16) (j : Fin 128) (t h : Fin 16) (d : Fin 64) (k : Fin 5) {X : Fin 5} (e : X = k) :
    ((ix5 b j t h d : S16x128x16x16x64.Idx) X).val = ((ix5 b j t h d : S16x128x16x16x64.Idx) k).val := by rw [e]

theorem gather_read (X : S256x16x16x64.Idx → EReal) (idx : S16x128x1.Idx → BitVec 32) (b : Fin 16) (j : Fin 128) (t h : Fin 16) (d : Fin 64) :
    Host.gather gd X idx (ix5 b j t h d)
      = X (ix4 (⟨min (idx (ix3 b j 0)).toInt.toNat 255, by omega⟩ : Fin 256) t h d) := by
  unfold Host.gather
  congr 1
  have hb (a : Fin 4) : gd.batchCoord (ix5 b j t h d) a = 0 := gd.batchCoord_eq_zero _ a List.not_mem_nil
  have hs (a : Fin 4) (ha : a ≠ 0) : gd.start (ix5 b j t h d) idx a = 0 := by
    unfold GatherDims.start
    exact dif_neg (show a ∉ gd.startIndexMap from fun h => ha (List.mem_singleton.mp h))
  have hi0 : gd.siIdx (ix5 b j t h d) ⟨0, by decide⟩ (0 : Fin 3) = b :=
    (dif_neg (show ¬ (0 : ℕ) = 2 by decide)).trans (Fin.ext (ix5_at b j t h d 0 (by decide)))
  have hi1 : gd.siIdx (ix5 b j t h d) ⟨0, by decide⟩ (1 : Fin 3) = j :=
    (dif_neg (show ¬ (1 : ℕ) = 2 by decide)).trans (Fin.ext (ix5_at b j t h d 1 (by decide)))
  have hi : gd.siIdx (ix5 b j t h d) ⟨0, by decide⟩ = ix3 b j 0 := by
    funext a
    match a with
    | ⟨0, _⟩ => exact hi0
    | ⟨1, _⟩ => exact hi1
    | ⟨2, _⟩ => exact Subsingleton.elim (α := Fin 1) _ _
  have h0 : gd.start (ix5 b j t h d) idx 0 = min (idx (ix3 b j 0)).toInt.toNat 255 := by
    unfold GatherDims.start
    rw [dif_pos (show (0 : Fin 4) ∈ gd.startIndexMap from List.mem_singleton.mpr rfl), ← hi]
    rfl
  have ho (a : Fin 4) (k : Fin 5) (ha : a ∈ gd.sKept) (hk : gd.offsetDims[gd.sKept.idxOf a]'(by rw [gd.offset_length]; exact List.idxOf_lt_length_iff.2 ha) = k) :
      gd.offCoord (ix5 b j t h d) a = ((ix5 b j t h d : S16x128x16x16x64.Idx) k).val := by
    unfold GatherDims.offCoord
    rw [dif_pos ha]
    exact ix5_at b j t h d k hk
  funext a
  apply Fin.ext
  show gd.start _ idx a + gd.batchCoord _ a + gd.offCoord _ a = _
  rw [hb a, Nat.add_zero]
  match a with
  | ⟨0, _⟩ =>
    refine (congrArg₂ (· + ·) h0 (gd.offCoord_eq_zero _ 0 (by decide))).trans (Nat.add_zero _)
  | ⟨1, _⟩ => exact (congrArg₂ (· + ·) (hs 1 (by decide)) (ho 1 2 (by decide) (by decide))).trans (Nat.zero_add _)
  | ⟨2, _⟩ => exact (congrArg₂ (· + ·) (hs 2 (by decide)) (ho 2 3 (by decide) (by decide))).trans (Nat.zero_add _)
  | ⟨3, _⟩ => exact (congrArg₂ (· + ·) (hs 3 (by decide)) (ho 3 4 (by decide) (by decide))).trans (Nat.zero_add _)

/-- A page number in range is looked up as it stands. -/
theorem rowsOf_read (X : S256x16x16x64.Idx → EReal) (bt : S16x128.Idx → BitVec 32) (b : Fin 16) (r : Fin 2048) (h : Fin 16) (d : Fin 64)
    (n : Fin 256) (hn : bt (ix2 b ⟨r.val / 16, by omega⟩) = BitVec.ofNat 32 n.val) :
    rowsOf X bt (ix4 b r h d) = X (ix4 n ⟨r.val % 16, by omega⟩ h d) := by
  pointwise [rowsOf, gather_read, pageIdx]
  have e0 : ∀ n : Fin 256, min (Scalar.select (IntOp.cmpi CmpIPredicate.slt (BitVec.ofNat 32 n.val) 0#32)
      (IntOp.addi (BitVec.ofNat 32 n.val) 256#32) (BitVec.ofNat 32 n.val)).toInt.toNat 255 = n.val := by decide +kernel
  have e (w : BitVec 32) (hw : w = BitVec.ofNat 32 n.val) :
      min (Scalar.select (IntOp.cmpi CmpIPredicate.slt w 0#32) (IntOp.addi w 256#32) w).toInt.toNat 255 = n.val := by
    subst hw; exact e0 n
  congr 2
  exact Fin.ext (e _ hn)

/-- The place that holds a row is the row's number divided by the rows of a page. -/
theorem placeOf_read (r : Fin 2048) : placeOf (ix2 0 r) = BitVec.ofNat 32 (r.val / 16) := by
  pointwise [placeOf, id]
  revert r
  decide +kernel

theorem liveOf_read (lens : S16.Idx → BitVec 32) (b h : Fin 16) (r : Fin 2048) :
    liveOf lens (ix3 b h r) = BitVec.ofBool ((BitVec.ofNat 32 (r.val / 16)).slt (lens (ix1 b))) := by
  pointwise [liveOf, placeOf_read]
  rfl

theorem scoreOf_read (Q : S16x1x16x64.Idx → EReal) (K : S256x16x16x64.Idx → EReal) (bt : S16x128.Idx → BitVec 32)
    (lens : S16.Idx → BitVec 32) (b h : Fin 16) (r : Fin 2048) :
    scoreOf Q K bt lens (ix3 b h r)
      = if (BitVec.ofNat 32 (r.val / 16)).slt (lens (ix1 b)) = true then
          (∑ d : Fin 64, Q (ix4 b 0 h d) * rowsOf K bt (ix4 b r h d)) * Ideal.ofBits .f32 0x3E000000#32 else ⊥ := by
  pointwise [scoreOf, id]
  rw [liveOf_read, show Ideal.ofBits .f32 0xFF800000#32 = ⊥ by simp [Ideal.ofBits, Ideal.ieee]]
  cases (BitVec.ofNat 32 (r.val / 16)).slt (lens (ix1 b)) <;> rfl

theorem out_read (S : S16x16x2048.Idx → EReal) (V : S16x2048x16x64.Idx → EReal) (b h : Fin 16) (d : Fin 64) :
    outOf (weightOf (expOf S)) V (ix4 b 0 h d)
      = ∑ r : Fin 2048, Ideal.div (Ideal.exp (S (ix3 b h r) - Finset.fold max ⊥ (fun r => S (ix3 b h r)) Finset.univ))
          (∑ r' : Fin 2048, Ideal.exp (S (ix3 b h r') - Finset.fold max ⊥ (fun r => S (ix3 b h r)) Finset.univ)) * V (ix4 b r h d) := by
  pointwise [outOf, weightOf, expOf, maxOf]
  rw [show Ideal.ofBits .f32 0xFF800000#32 = ⊥ by simp [Ideal.ofBits, Ideal.ieee]]

end Cert.PagedRef

end
-- ==== Proof.Softmax.lean ====
module

public import Idealize.ShloMosaic.PureOps.Ideal

/-! Softmax-weighted sums over the extended reals: the weights are real, the values summed are any extended reals. -/

@[expose] public section

noncomputable section

namespace Cert.Softmax

open Idealize.ShloMosaic

variable {ι : Type} (s : Finset ι)

theorem coe_sum (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Real weights that are not negative, each times one extended real, sum to their sum times it. -/
theorem sum_coe_mul (f : ι → ℝ) (hf : ∀ i ∈ s, 0 ≤ f i) (z : EReal) :
    ∑ i ∈ s, (f i : EReal) * z = ((∑ i ∈ s, f i : ℝ) : EReal) * z := by
  classical
  induction s using Finset.induction_on with
  | empty => simp
  | insert a s ha ih =>
    have h1 : 0 ≤ f a := hf a (Finset.mem_insert_self a s)
    have h2 : 0 ≤ ∑ i ∈ s, f i := Finset.sum_nonneg fun i hi => hf i (Finset.mem_insert_of_mem hi)
    rw [Finset.sum_insert ha, Finset.sum_insert ha, ih fun i hi => hf i (Finset.mem_insert_of_mem hi), EReal.coe_add,
      EReal.right_distrib_of_nonneg (by exact_mod_cast h1) (by exact_mod_cast h2)]

/-- A real factor that is not negative moves out of a sum of extended reals. -/
theorem coe_mul_sum (c : ℝ) (hc : 0 ≤ c) (g : ι → EReal) : ∑ i ∈ s, (c : EReal) * g i = (c : EReal) * ∑ i ∈ s, g i := by
  classical
  induction s using Finset.induction_on with
  | empty => simp
  | insert a s ha ih =>
    rw [Finset.sum_insert ha, Finset.sum_insert ha, ih,
      EReal.left_distrib_of_nonneg_of_ne_top (by exact_mod_cast hc) (EReal.coe_ne_top c)]

/-- The largest of scores of which some are masked out: a real number, when one is not masked. -/
theorem fold_max_real {n : ℕ} (live : Fin n → Prop) [DecidablePred live] (x : Fin n → ℝ) (r₀ : Fin n) (h₀ : live r₀) :
    ∃ μ : ℝ, Finset.fold max ⊥ (fun r => if live r then (x r : EReal) else ⊥) Finset.univ = (μ : EReal) := by
  set M := Finset.fold max ⊥ (fun r => if live r then (x r : EReal) else ⊥) Finset.univ with hM
  have hlo : (x r₀ : EReal) ≤ M := by
    rw [hM, Finset.le_fold_max]
    exact .inr ⟨r₀, Finset.mem_univ _, by rw [if_pos h₀]⟩
  have hhi : M < ⊤ := by
    rw [hM, Finset.fold_max_lt]
    refine ⟨bot_lt_top, fun r _ => ?_⟩
    split
    · exact EReal.coe_lt_top _
    · exact bot_lt_top
  refine ⟨M.toReal, (EReal.coe_toReal hhi.ne fun h => ?_).symm⟩
  rw [h] at hlo
  exact absurd hlo (not_le.mpr (EReal.bot_lt_coe _))

/-- The weight of a row before it is divided by the sum: the exponential of its score, none when masked out. -/
def raw {n : ℕ} (live : Fin n → Prop) [DecidablePred live] (x : Fin n → ℝ) (r : Fin n) : ℝ := if live r then Real.exp (x r) else 0

theorem raw_nonneg {n : ℕ} (live : Fin n → Prop) [DecidablePred live] (x : Fin n → ℝ) (r : Fin n) : 0 ≤ raw live x r := by
  unfold raw; split
  · exact (Real.exp_pos _).le
  · exact le_rfl

theorem raw_sum_pos {n : ℕ} (live : Fin n → Prop) [DecidablePred live] (x : Fin n → ℝ) (r₀ : Fin n) (h₀ : live r₀) :
    0 < ∑ r, raw live x r :=
  Finset.sum_pos' (fun r _ => raw_nonneg live x r) ⟨r₀, Finset.mem_univ _, by unfold raw; rw [if_pos h₀]; exact Real.exp_pos _⟩

/-- A softmax-weighted sum measured from the largest score, as one quotient of plain sums. -/
theorem softmax_sum {n : ℕ} (live : Fin n → Prop) [DecidablePred live] (x : Fin n → ℝ) (r₀ : Fin n) (h₀ : live r₀)
    (S : Fin n → EReal) (hS : ∀ r, S r = if live r then (x r : EReal) else ⊥) (v : Fin n → EReal) :
    ∑ r, Ideal.div (Ideal.exp (S r - Finset.fold max ⊥ S Finset.univ)) (∑ r', Ideal.exp (S r' - Finset.fold max ⊥ S Finset.univ)) * v r
      = (∑ r, (raw live x r : EReal) * v r) * ((1 / ∑ r, raw live x r : ℝ) : EReal) := by
  obtain ⟨μ, hμ⟩ := fold_max_real live x r₀ h₀
  obtain rfl : S = fun r => if live r then (x r : EReal) else ⊥ := funext hS
  have hE (r : Fin n) : Ideal.exp ((if live r then (x r : EReal) else ⊥) - (μ : EReal)) = ((raw live x r * Real.exp (-μ) : ℝ) : EReal) := by
    unfold raw
    split
    · rw [← EReal.coe_sub, Ideal.exp_coe, sub_eq_add_neg, Real.exp_add]
    · rw [zero_mul, EReal.bot_sub, Ideal.exp_bot, EReal.coe_zero]
  have hA := raw_sum_pos live x r₀ h₀
  have hm := Real.exp_pos (-μ)
  simp only [hμ, hE]
  rw [← coe_sum, ← Finset.sum_mul]
  rw [mul_comm (∑ r, (raw live x r : EReal) * v r), ← coe_mul_sum _ _ (by positivity)]
  refine Finset.sum_congr rfl fun r _ => ?_
  rw [Ideal.div_coe (by positivity), ← EReal.coe_mul, ← mul_assoc, ← EReal.coe_mul]
  congr 2
  field_simp

/-- A sum over places and rows of the page at each place, as a sum over the pages, each counted as often as it is listed. -/
theorem sum_by_page {J N T : ℕ} (live : Fin J → Prop) [DecidablePred live] (page : Fin J → Fin N) (e : Fin N → Fin T → ℝ)
    (he : ∀ n t, 0 ≤ e n t) (v : Fin N → Fin T → EReal) :
    ∑ j, ∑ t, ((if live j then e (page j) t else 0 : ℝ) : EReal) * v (page j) t
      = ∑ n, ∑ t, ((e n t * ∑ j, (if live j ∧ page j = n then 1 else 0 : ℝ) : ℝ) : EReal) * v n t := by
  have h1 (j : Fin J) (t : Fin T) : ((if live j then e (page j) t else 0 : ℝ) : EReal) * v (page j) t
      = ∑ n, ((e n t * (if live j ∧ page j = n then 1 else 0 : ℝ) : ℝ) : EReal) * v n t := by
    rw [Finset.sum_eq_single (page j)]
    · by_cases h : live j <;> simp [h]
    · intro n _ hn
      rw [if_neg fun h => hn h.2.symm, mul_zero, EReal.coe_zero, zero_mul]
    · exact fun h => absurd (Finset.mem_univ _) h
  calc ∑ j, ∑ t, ((if live j then e (page j) t else 0 : ℝ) : EReal) * v (page j) t
      = ∑ j, ∑ t, ∑ n, ((e n t * (if live j ∧ page j = n then 1 else 0 : ℝ) : ℝ) : EReal) * v n t :=
        Finset.sum_congr rfl fun j _ => Finset.sum_congr rfl fun t _ => h1 j t
    _ = ∑ j, ∑ n, ∑ t, ((e n t * (if live j ∧ page j = n then 1 else 0 : ℝ) : ℝ) : EReal) * v n t :=
        Finset.sum_congr rfl fun j _ => Finset.sum_comm
    _ = ∑ n, ∑ j, ∑ t, ((e n t * (if live j ∧ page j = n then 1 else 0 : ℝ) : ℝ) : EReal) * v n t := Finset.sum_comm
    _ = ∑ n, ∑ t, ∑ j, ((e n t * (if live j ∧ page j = n then 1 else 0 : ℝ) : ℝ) : EReal) * v n t :=
        Finset.sum_congr rfl fun n _ => Finset.sum_comm
    _ = _ := by
        refine Finset.sum_congr rfl fun n _ => Finset.sum_congr rfl fun t _ => ?_
        rw [sum_coe_mul _ _ fun j _ => mul_nonneg (he n t) (by split <;> norm_num), ← Finset.mul_sum]

/-- The same for the plain real sum of the weights. -/
theorem sum_by_page_real {J N T : ℕ} (live : Fin J → Prop) [DecidablePred live] (page : Fin J → Fin N) (e : Fin N → Fin T → ℝ)
    (he : ∀ n t, 0 ≤ e n t) :
    ∑ j, ∑ t, (if live j then e (page j) t else 0 : ℝ) = ∑ n, ∑ t, e n t * ∑ j, (if live j ∧ page j = n then 1 else 0 : ℝ) := by
  have h := sum_by_page live page e he fun _ _ => 1
  simp only [mul_one, ← coe_sum] at h
  exact_mod_cast h

/-- A common positive factor of the weights cancels in the quotient of the sums. -/
theorem div_scaled (κ : ℝ) (hκ : 0 < κ) (A : EReal) (B : ℝ) (hB : 0 < B) :
    Ideal.div ((κ : EReal) * A) ((κ * B : ℝ) : EReal) = A * ((1 / B : ℝ) : EReal) := by
  rw [Ideal.div_coe (by positivity), mul_comm (κ : EReal), mul_assoc, ← EReal.coe_mul]
  congr 2
  field_simp

end Cert.Softmax

end
-- ==== Proof.Served.lean ====
module

public import proofs.«01_k».proof.Pre_served_KernelIdeal
public import Idealize.ShloMosaic.Lib.Pointwise
public import Idealize.ShloMosaic.Lib.StableHlo.Predicate

/-! What the precondition says: queries and keys are finite, a sequence has a page, a live place names a page that there is. -/

@[expose] public section

set_option maxRecDepth 16384

noncomputable section

namespace Cert.PagedAttn

open Cert.Pre_served_KernelIdeal
open Idealize.ShloMosaic

/-- An extended real whose absolute value is below the float infinity is a real number. -/
theorem real_of_abs_lt {x : EReal} (h : BitVec.ofBool (decide (FloatOps.absf (F := Ideal) (φ := .f32) x < Ideal.ofBits .f32 0x7F800000#32)) = 1#1) :
    ∃ r : ℝ, x = (r : EReal) := by
  have h1 := of_decide_eq_true ((StableHlo.Predicate.ofBool_eq_one_iff _).1 h)
  have h2 : max x (-x) < (⊤ : EReal) := by
    refine lt_of_lt_of_le (b := _) h1 ?_
    simp [Ideal.ofBits, Ideal.ieee]
  refine ⟨x.toReal, (EReal.coe_toReal ?_ ?_).symm⟩
  · rintro rfl; simp at h2
  · rintro rfl; simp at h2

variable [Facts] (Q : S16x1x16x64.Idx → EReal) (K V : S128x16x16x64.Idx → EReal) (T : S16x128.Idx → BitVec 32) (N : S16.Idx → BitVec 32)

theorem served_q (hp : (fn (F := Ideal) Q K V T N).1 = fun _ => 1#1) (b h : Fin 16) (d : Fin 64) : ∃ r : ℝ, Q (ix4 b 0 h d) = (r : EReal) := by
  have e := congrFun hp (ix4 b 0 h d)
  revert e
  pointwise [fn, fn_part1]
  exact real_of_abs_lt

theorem served_k (hp : (fn (F := Ideal) Q K V T N).2.1 = fun _ => 1#1) (p : Fin 128) (t h : Fin 16) (d : Fin 64) :
    ∃ r : ℝ, K (ix4 p t h d) = (r : EReal) := by
  have e := congrFun hp (ix4 p t h d)
  revert e
  pointwise [fn, fn_part1]
  exact real_of_abs_lt

theorem served_len (hp : (fn (F := Ideal) Q K V T N).2.2.1 = fun _ => 1#1) (b : Fin 16) : (0#32).slt (N (ix1 b)) = true := by
  have e := congrFun hp (ix1 b)
  revert e
  pointwise [fn, fn_part1]
  intro e
  have e' := (StableHlo.Predicate.ofBool_eq_one_iff _).1 e
  generalize N (ix1 b) = w at e' ⊢
  simp only [BitVec.sle, BitVec.slt, decide_eq_true_eq] at e' ⊢
  have : (1#32).toInt = 1 := by decide
  have : (0#32).toInt = 0 := by decide
  omega

theorem served_page (hp : (fn (F := Ideal) Q K V T N).2.2.2 = fun _ => 1#1) (b : Fin 16) (j : Fin 128)
    (hl : (BitVec.ofNat 32 j.val).slt (N (ix1 b)) = true) : ∃ n : Fin 256, T (ix2 b j) = BitVec.ofNat 32 n.val := by
  have e := congrFun hp (ix2 b j)
  revert e
  pointwise [fn, fn_part1]
  simp only [IntOp.cmpi, hl]
  generalize T (ix2 b j) = w
  intro e
  have e1 : (0#32).sle w = true ∧ w.slt 256#32 = true := by
    revert e
    cases h1 : (0#32).sle w <;> cases h2 : w.slt 256#32 <;> simp [IntOp.ori, IntOp.andi]
  simp only [BitVec.sle, BitVec.slt, decide_eq_true_eq] at e1
  have h0 : (0#32).toInt = 0 := by decide
  have h256 : (256#32).toInt = 256 := by decide
  have hw : w.toNat < 256 := by
    have := BitVec.toInt_eq_toNat_cond w
    split at this <;> omega
  exact ⟨⟨w.toNat, hw⟩, by simp⟩

end Cert.PagedAttn

end
-- ==== Proof.Value.lean ====
module

public import proofs.«01_k».proof.Proof.KernelValue
public import proofs.«01_k».proof.Proof.RefValue
public import proofs.«01_k».proof.Proof.Softmax
public import proofs.«01_k».proof.Proof.Served

/-! The kernel's result and the reference's are one value. -/

@[expose] public section

set_option maxRecDepth 16384

noncomputable section

namespace Cert.PagedAttn

open Cert.KernelIdeal Cert.KernelIdeal.Gen
open Idealize.ShloMosaic Idealize.ShloMosaic.TcCoe

/-! ## The two devices of a pair and the pages they hold -/

/-- The page a device holds at place `p` of its block. -/
def pageOf (c : Dev nD) (p : Fin 128) : Fin 256 := ⟨128 * (c.val / 4 % 2) + p.val, by omega⟩

theorem yW_eq : ∀ c : Dev nD, yW c = BitVec.ofNat 32 (c.val / 4 % 2) := by decide +kernel

theorem half_pr (c : Dev nD) : (pr c).val / 4 % 2 = 1 - c.val / 4 % 2 := by
  rw [pr_val]
  omega

/-- A sum over all pages is a sum over the pages of a device and those of its partner. -/
theorem sum_pages {α : Type} [AddCommMonoid α] (c : Dev nD) (f : Fin 256 → α) :
    ∑ n, f n = (∑ p, f (pageOf c p)) + ∑ p, f (pageOf (pr c) p) := by
  have e : ∑ n, f n = (∑ p : Fin 128, f ⟨p.val, by omega⟩) + ∑ p : Fin 128, f ⟨128 + p.val, by omega⟩ := Fin.sum_univ_add (a := 128) (b := 128) f
  have hp := half_pr c
  rcases Nat.mod_two_eq_zero_or_one (c.val / 4) with h | h
  · rw [e]
    congr 1 <;> refine Finset.sum_congr rfl fun p _ => congrArg f (Fin.ext ?_) <;> simp only [pageOf] <;> omega
  · rw [e, add_comm]
    congr 1 <;> refine Finset.sum_congr rfl fun p _ => congrArg f (Fin.ext ?_) <;> simp only [pageOf] <;> omega

theorem page_held (n : Fin 256) : ∃ (c : Dev nD) (p : Fin 128), pageOf c p = n := by
  refine ⟨⟨4 * (n.val / 128), ?_⟩, ⟨n.val % 128, Nat.mod_lt _ (by decide)⟩, Fin.ext ?_⟩
  · show _ < 16
    omega
  · simp only [pageOf]
    omega

/-- A device's block of an array cut along `y`, read as the whole array. -/
theorem block_read (X : (⟨4, ![256, 16, 16, 64]⟩ : Shape).Idx → EReal) (c : Dev nD) (p : Fin 128) (t h : Fin 16) (d : Fin 64) :
    Layout.blockN ⟨4, ![128, 16, 16, 64]⟩ ⟨4, ![256, 16, 16, 64]⟩ (Layout.meshBlock [2, 2, 4] ![[1], [], [], []] c) X (by decide) (ix4 p t h d)
      = X (ix4 (pageOf c p) t h d) := by
  rw [Layout.blockN_apply]
  refine congrArg X (funext fun a => Fin.ext ?_)
  rw [Layout.TilesN.idx_val, Layout.meshBlock_val]
  fin_cases a
  · simp [Layout.meshLin, Layout.meshCoord, Layout.cutSize, ix4, pageOf]
    omega
  · simp [Layout.meshLin, ix4]
  · simp [Layout.meshLin, ix4]
  · simp [Layout.meshLin, ix4]

/-- A sum over the rows of a sequence is a sum over its places and the tokens of each. -/
theorem sum_rows {α : Type} [AddCommMonoid α] (f : Fin 2048 → α) :
    ∑ r, f r = ∑ j : Fin 128, ∑ t : Fin 16, f ⟨t.val + 16 * j.val, by omega⟩ := by
  rw [← (finProdFinEquiv (m := 128) (n := 16)).sum_comp f, Fintype.sum_prod_type]
  rfl

/-! ## The weight of a page -/

theorem const_eighth : Ideal.ofBits .f32 0x3E000000#32 = ((1 / 8 : ℝ) : EReal) := by
  simp [Ideal.ofBits, Ideal.ieee, -EReal.coe_mul]; norm_num
theorem const_shift : Ideal.ofBits .f32 0xC1400000#32 = ((-12 : ℝ) : EReal) := by
  simp [Ideal.ofBits, Ideal.ieee, -EReal.coe_mul, -EReal.coe_neg]; norm_num

/-- The word of a device's page number, as the kernel computes it. -/
theorem page_word (c : Dev nD) (p : Fin 128) : BitVec.ofNat 32 p.val + yW c * 128#32 = BitVec.ofNat 32 (pageOf c p).val := by
  rw [yW_eq]
  apply BitVec.eq_of_toNat_eq
  simp only [BitVec.toNat_add, BitVec.toNat_mul, BitVec.toNat_ofNat, pageOf]
  omega

/-- Whether a place counts for a page, as the number the kernel adds. -/
theorem hit_value (w : BitVec 32) (n : ℕ) :
    ((((IntOp.cmpi .eq w (BitVec.ofNat 32 n)).setWidth 32).toInt : ℝ) : EReal) = ((if w = BitVec.ofNat 32 n then 1 else 0 : ℝ) : EReal) := by
  by_cases h : w = BitVec.ofNat 32 n
  · rw [if_pos h, StableHlo.Predicate.cmpi_eq_iff.2 h]
    norm_num
  · rw [if_neg h, (BitVec.eq_zero_or_eq_one _).resolve_right fun e => h (StableHlo.Predicate.cmpi_eq_iff.1 e)]
    norm_num

theorem page_word_eq (n n' : Fin 256) : BitVec.ofNat 32 n.val = BitVec.ofNat 32 n'.val ↔ n = n' := by
  constructor
  · intro h
    have := congrArg BitVec.toNat h
    simp only [BitVec.toNat_ofNat] at this
    exact Fin.ext (by omega)
  · rintro rfl; rfl

theorem page_word_ne (n : Fin 256) : (4294967295#32 : BitVec 32) ≠ BitVec.ofNat 32 n.val := by
  intro h
  have := congrArg BitVec.toNat h
  simp only [BitVec.toNat_ofNat] at this
  omega

/-- How often the live places of a sequence name a page. -/
def count (live : Fin 128 → Prop) [DecidablePred live] (page : Fin 128 → Fin 256) (n : Fin 256) : ℝ :=
  ∑ j, (if live j ∧ page j = n then 1 else 0 : ℝ)

variable (m : (ℓ : Loc nD τ sig) → Buf (Elt Ideal) ℓ) (c : Dev nD)

/-- A place is live while it is below the sequence's number of pages. -/
abbrev live (N : S16.Idx → BitVec 32) (b : Fin 16) (j : Fin 128) : Prop := (BitVec.ofNat 32 j.val).slt (N (ix1 b)) = true

theorem wOf_read (b : Fin 16) (p : Fin 128) (page : Fin 128 → Fin 256)
    (hpage : ∀ j, live (argN m c) b j → argT m c (ix2 b j) = BitVec.ofNat 32 (page j).val) :
    wOf (F := Ideal) c (bIn m c) (ix3 0 b p) = ((count (live (argN m c) b) page (pageOf c p) * Real.exp (-12) : ℝ) : EReal) := by
  unfold wOf
  rw [pay1_read, const_shift, Ideal.exp_coe, EReal.coe_mul, page_word]
  congr 1
  unfold count
  rw [Softmax.coe_sum]
  refine Finset.sum_congr rfl fun j _ => ?_
  rw [hit_value, bIn_read]
  congr 1
  by_cases hl : live (argN m c) b j
  · rw [if_pos hl, hpage j hl]
    exact if_congr ((page_word_eq _ _).trans ⟨fun h => ⟨hl, h⟩, fun h => h.2⟩) rfl rfl
  · rw [if_neg hl, if_neg (page_word_ne _), if_neg fun h => hl h.1]

/-! ## A device's partial sums as sums over its pages -/

/-- The score of a key row. -/
def score (q : Fin 64 → ℝ) (k : Fin 64 → ℝ) : ℝ := ∑ d, q d * k d * (1 / 8)

theorem share_value (b h t : Fin 16) (p : Fin 128) (page : Fin 128 → Fin 256)
    (hpage : ∀ j, live (argN m c) b j → argT m c (ix2 b j) = BitVec.ofNat 32 (page j).val) (q : Fin 64 → ℝ) (hq : ∀ d, argQ m c (ix4 b 0 h d) = (q d : EReal))
    (k : Fin 64 → ℝ) (hk : ∀ d, argK m c (ix4 p t h d) = (k d : EReal)) :
    share (wOf (F := Ideal) c (bIn m c)) (k0_pay2 (F := Ideal) (qIn m c)) (kIn m c) h b t p
      = ((Real.exp (-12) * (Real.exp (score q k) * count (live (argN m c) b) page (pageOf c p)) : ℝ) : EReal) := by
  unfold share
  rw [wOf_read m c b p page hpage]
  have e : ∑ d : Fin 64, k0_pay2 (F := Ideal) (qIn m c) (ix3 h b d) * kIn m c (ix4 t h d p) = ((score q k : ℝ) : EReal) := by
    unfold score
    rw [Softmax.coe_sum]
    refine Finset.sum_congr rfl fun d _ => ?_
    rw [qIn_read, kIn_read, hq, hk, const_eighth, ← EReal.coe_mul, ← EReal.coe_mul]
    congr 1
    ring
  rw [e, Ideal.exp_coe, ← EReal.coe_mul]
  congr 1
  ring

/-! ## The two results -/

/-- The place of a row of a sequence, and the token of its page. -/
def placeR (r : Fin 2048) : Fin 128 := ⟨r.val / 16, by omega⟩
def tokR (r : Fin 2048) : Fin 16 := ⟨r.val % 16, by omega⟩

theorem placeR_mk (j : Fin 128) (t : Fin 16) : placeR ⟨t.val + 16 * j.val, by omega⟩ = j := Fin.ext (by simp only [placeR]; omega)
theorem tokR_mk (j : Fin 128) (t : Fin 16) : tokR ⟨t.val + 16 * j.val, by omega⟩ = t := Fin.ext (by simp only [tokR]; omega)

section

variable (lv : Fin 128 → Prop) [DecidablePred lv] (page : Fin 128 → Fin 256) (E : Fin 256 → Fin 16 → ℝ) (x : Fin 256 → Fin 16 → ℝ)

/-- The weights of a sequence's rows, times the rows' values, summed page by page. -/
theorem rows_by_page (v : Fin 256 → Fin 16 → EReal) :
    ∑ r, (Softmax.raw (fun r => lv (placeR r)) (fun r => x (page (placeR r)) (tokR r)) r : EReal) * v (page (placeR r)) (tokR r)
      = ∑ n, ∑ t, ((Real.exp (x n t) * count lv page n : ℝ) : EReal) * v n t := by
  rw [sum_rows]
  simp only [Softmax.raw, placeR_mk, tokR_mk]
  exact Softmax.sum_by_page lv page (fun n t => Real.exp (x n t)) (fun n t => (Real.exp_pos _).le) v

theorem rows_by_page_real :
    ∑ r, Softmax.raw (fun r => lv (placeR r)) (fun r => x (page (placeR r)) (tokR r)) r = ∑ n, ∑ t, Real.exp (x n t) * count lv page n := by
  rw [sum_rows]
  simp only [Softmax.raw, placeR_mk, tokR_mk]
  exact Softmax.sum_by_page_real lv page (fun n t => Real.exp (x n t)) (fun n t => (Real.exp_pos _).le)

end

/-- The whole arrays of which the devices hold copies or blocks. -/
structure Holds (Q : S16x1x16x64.Idx → EReal) (K V : (⟨4, ![256, 16, 16, 64]⟩ : Shape).Idx → EReal) (T : S16x128.Idx → BitVec 32)
    (N : S16.Idx → BitVec 32) : Prop where
  q : ∀ c, argQ m c = Q
  k : ∀ c p t h d, argK m c (ix4 p t h d) = K (ix4 (pageOf c p) t h d)
  v : ∀ c p t h d, argV m c (ix4 p t h d) = V (ix4 (pageOf c p) t h d)
  t : ∀ c, argT m c = T
  n : ∀ c, argN m c = N

section

variable {m} {Q : S16x1x16x64.Idx → EReal} {K V : (⟨4, ![256, 16, 16, 64]⟩ : Shape).Idx → EReal} {T : S16x128.Idx → BitVec 32} {N : S16.Idx → BitVec 32}
  (H : Holds m Q K V T N) (b h : Fin 16) (d : Fin 64) (page : Fin 128 → Fin 256) (hpage : ∀ j, live N b j → T (ix2 b j) = BitVec.ofNat 32 (page j).val)
  (q : Fin 64 → ℝ) (hq : ∀ d, Q (ix4 b 0 h d) = (q d : EReal)) (k : Fin 256 → Fin 16 → Fin 64 → ℝ) (hk : ∀ n t d, K (ix4 n t h d) = (k n t d : EReal))
include H hpage hq hk

theorem share_whole (t : Fin 16) (p : Fin 128) :
    share (wOf (F := Ideal) c (bIn m c)) (k0_pay2 (F := Ideal) (qIn m c)) (kIn m c) h b t p
      = ((Real.exp (-12) * (Real.exp (score q (k (pageOf c p) t)) * count (live N b) page (pageOf c p)) : ℝ) : EReal) := by
  have e := share_value m c b h t p page (by rw [H.n, H.t]; exact hpage) q (by rw [H.q]; exact hq) (k (pageOf c p) t) (fun d => (H.k c p t h d).trans (hk _ _ _))
  rw [H.n] at e
  exact e

/-- The normalisers of a pair, added. -/
theorem lOf_add :
    lOf (F := Ideal) m c (ix2 b h) + lOf (F := Ideal) m (pr c) (ix2 b h)
      = ((Real.exp (-12) * ∑ n, ∑ t, Real.exp (score q (k n t)) * count (live N b) page n : ℝ) : EReal) := by
  rw [lOf_read, lOf_read]
  simp only [share_whole (c := c) H b h page hpage q hq k hk, share_whole (c := pr c) H b h page hpage q hq k hk]
  rw [Finset.sum_comm, Finset.sum_comm (s := (Finset.univ : Finset (Fin 16)))]
  rw [← sum_pages c (fun n => ∑ t : Fin 16, ((Real.exp (-12) * (Real.exp (score q (k n t)) * count (live N b) page n) : ℝ) : EReal))]
  simp only [Finset.mul_sum, Softmax.coe_sum]

/-- The outputs of a pair, added. -/
theorem oOf_add :
    oOf (F := Ideal) m c (ix3 h b d) + oOf (F := Ideal) m (pr c) (ix3 h b d)
      = (Real.exp (-12) : EReal) * ∑ n, ∑ t, ((Real.exp (score q (k n t)) * count (live N b) page n : ℝ) : EReal) * V (ix4 n t h d) := by
  have e (c : Dev nD) : oOf (F := Ideal) m c (ix3 h b d) = ∑ p, ∑ t,
      ((Real.exp (-12) * (Real.exp (score q (k (pageOf c p) t)) * count (live N b) page (pageOf c p)) : ℝ) : EReal) * V (ix4 (pageOf c p) t h d) := by
    rw [oOf_read, Finset.sum_comm]
    refine Finset.sum_congr rfl fun p _ => Finset.sum_congr rfl fun t _ => ?_
    rw [share_whole c H b h page hpage q hq k hk, vIn_read, H.v]
  rw [e, e]
  rw [← sum_pages c (fun n => ∑ t : Fin 16, ((Real.exp (-12) * (Real.exp (score q (k n t)) * count (live N b) page n) : ℝ) : EReal) * V (ix4 n t h d))]
  simp only [← Softmax.coe_mul_sum _ _ (Real.exp_pos (-12)).le, EReal.coe_mul, mul_assoc]

/-- An element of a device's result is the reference's. -/
theorem result_at (hlen : (0#32).slt (N (ix1 b)) = true) :
    resOf (F := Ideal) m c (ix4 b 0 h d)
      = PagedRef.outOf (PagedRef.weightOf (PagedRef.expOf (PagedRef.scoreOf Q K T N))) (PagedRef.rowsOf V T) (ix4 b 0 h d) := by
  have hr (X : (⟨4, ![256, 16, 16, 64]⟩ : Shape).Idx → EReal) (d : Fin 64) (r : Fin 2048) (hl : live N b (placeR r)) :
      PagedRef.rowsOf X T (ix4 b r h d) = X (ix4 (page (placeR r)) (tokR r) h d) :=
    PagedRef.rowsOf_read X T b r h d (page (placeR r)) (hpage _ hl)
  have hS (r : Fin 2048) : PagedRef.scoreOf Q K T N (ix3 b h r)
      = if live N b (placeR r) then ((score q (k (page (placeR r)) (tokR r)) : ℝ) : EReal) else ⊥ := by
    rw [PagedRef.scoreOf_read]
    refine if_ctx_congr Iff.rfl (fun hl => ?_) fun _ => rfl
    simp only [hr K _ r hl, hq, hk, const_eighth, score, ← EReal.coe_mul, ← Softmax.coe_sum, Finset.sum_mul]
  have h0 : live N b (placeR 0) := hlen
  rw [resOf_read, lOf_add c H b h page hpage q hq k hk, oOf_add c H b h d page hpage q hq k hk, PagedRef.out_read]
  rw [Softmax.softmax_sum (fun r => live N b (placeR r)) (fun r => score q (k (page (placeR r)) (tokR r))) 0 h0 _ hS]
  have hv (r : Fin 2048) : (Softmax.raw (fun r => live N b (placeR r)) (fun r => score q (k (page (placeR r)) (tokR r))) r : EReal) * PagedRef.rowsOf V T (ix4 b r h d)
      = (Softmax.raw (fun r => live N b (placeR r)) (fun r => score q (k (page (placeR r)) (tokR r))) r : EReal) * V (ix4 (page (placeR r)) (tokR r) h d) := by
    by_cases hl : live N b (placeR r)
    · rw [hr V d r hl]
    · have e0 : Softmax.raw (fun r => live N b (placeR r)) (fun r => score q (k (page (placeR r)) (tokR r))) r = 0 := if_neg hl
      rw [e0, EReal.coe_zero, zero_mul, zero_mul]
  have hpos := Softmax.raw_sum_pos (fun r => live N b (placeR r)) (fun r => score q (k (page (placeR r)) (tokR r))) 0 h0
  simp only [hv]
  rw [rows_by_page (live N b) page (fun n t => score q (k n t)) (fun n t => V (ix4 n t h d))]
  rw [rows_by_page_real (live N b) page (fun n t => score q (k n t))] at hpos ⊢
  exact Softmax.div_scaled _ (Real.exp_pos _) _ _ hpos

end

/-- A device's result is the reference's value of the whole arrays. -/
theorem result_eq [Cert.Pre_served_KernelIdeal.Facts] {Q : S16x1x16x64.Idx → EReal} {K V : (⟨4, ![256, 16, 16, 64]⟩ : Shape).Idx → EReal}
    {T : S16x128.Idx → BitVec 32} {N : S16.Idx → BitVec 32} (H : Holds m Q K V T N)
    (hp : ∀ c, (Cert.Pre_served_KernelIdeal.fn (F := Ideal) (argQ m c) (argK m c) (argV m c) (argT m c) (argN m c)).1 = (fun _ => 1#1)
      ∧ (Cert.Pre_served_KernelIdeal.fn (F := Ideal) (argQ m c) (argK m c) (argV m c) (argT m c) (argN m c)).2.1 = (fun _ => 1#1)
      ∧ (Cert.Pre_served_KernelIdeal.fn (F := Ideal) (argQ m c) (argK m c) (argV m c) (argT m c) (argN m c)).2.2.1 = (fun _ => 1#1)
      ∧ (Cert.Pre_served_KernelIdeal.fn (F := Ideal) (argQ m c) (argK m c) (argV m c) (argT m c) (argN m c)).2.2.2 = (fun _ => 1#1)) :
    resOf (F := Ideal) m c = PagedRef.outOf (PagedRef.weightOf (PagedRef.expOf (PagedRef.scoreOf Q K T N))) (PagedRef.rowsOf V T) := by
  funext i
  obtain ⟨b, o, h, d, rfl⟩ : ∃ (b : Fin 16) (o : Fin 1) (h : Fin 16) (d : Fin 64), i = ix4 b o h d := ⟨i 0, i 1, i 2, i 3, by
    funext a; fin_cases a <;> rfl⟩
  obtain rfl : o = 0 := Subsingleton.elim _ _
  have hQ (d : Fin 64) : ∃ r : ℝ, Q (ix4 b 0 h d) = (r : EReal) := H.q c ▸ served_q _ _ _ _ _ (hp c).1 b h d
  have hK (n : Fin 256) (t : Fin 16) (d : Fin 64) : ∃ r : ℝ, K (ix4 n t h d) = (r : EReal) := by
    obtain ⟨c', p, rfl⟩ := page_held n
    exact H.k c' p t h d ▸ served_k _ _ _ _ _ (hp c').2.1 p t h d
  have hT (j : Fin 128) : ∃ n : Fin 256, live N b j → T (ix2 b j) = BitVec.ofNat 32 n.val := by
    by_cases hl : live N b j
    · have e := served_page _ _ _ _ _ (hp c).2.2.2 b j (by rw [H.n]; exact hl)
      rw [H.t] at e
      obtain ⟨n, hn⟩ := e
      exact ⟨n, fun _ => hn⟩
    · exact ⟨0, fun h => absurd h hl⟩
  have hN : (0#32).slt (N (ix1 b)) = true := H.n c ▸ served_len _ _ _ _ _ (hp c).2.2.1 b
  choose q hq using hQ
  choose k hk using hK
  choose page hpage using hT
  exact result_at c H b h d page hpage q hq k hk hN

end Cert.PagedAttn

end
-- ==== Proof.lean ====
/-
  The claims of this certificate, assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Gen.Pre_served_KernelIdeal
public import proofs.«01_k».proof.Proof.Gen.Pre_served_ReferenceIdeal
public import proofs.«01_k».proof.Proof.SameText
public import proofs.«01_k».proof.Proof.Value
public import Idealize.ShloMosaic.Adequacy
public import Idealize.ShloMosaic.Init

@[expose] public section

noncomputable section

namespace Cert.Proof

open Idealize.ShloMosaic Idealize.SL.Sem

theorem frame_kernel : Cert.quiescent_Kernel := by
  intro m ρ _
  have h := (θ_run (Cert.KernelIdeal.defs (F := Bits)) _ _).mono (fun r (h : Cert.PagedAttn.Final (F := Bits) m r) => And.intro (fun c => (h.1 c).1) h.2)
    (Cert.PagedAttn.run_main (F := Bits) m ρ)
  rw [Cert.PagedAttn.same_defs]
  exact h

theorem frame_ideal : Cert.quiescent_KernelIdeal := fun m ρ _ =>
  (θ_run (Cert.KernelIdeal.defs (F := Ideal)) _ _).mono (fun _ h => ⟨fun c => (h.1 c).1, h.2⟩) (Cert.PagedAttn.run_main (F := Ideal) m ρ)

theorem frame_reference : Cert.quiescent_ReferenceIdeal := fun m ρ _ =>
  (θ_run (Cert.ReferenceIdeal.defs (F := Ideal)) _ _).mono (fun _ h => ⟨fun c => (h c).2, sem_eq_zero_of_no_sems rfl _⟩) (Cert.ReferenceIdeal.Value.run (F := Ideal) m ρ)

theorem algebraic [Cert.Pre_served_KernelIdeal.Facts] : Cert.algebraic_KernelIdeal_ReferenceIdeal_pre_served_KernelIdeal := by
  intro m g m' g' hp hm
  refine ⟨_, (θ_run (Cert.KernelIdeal.defs (F := Ideal)) _ _).mono (fun _ h c => ⟨(h.1 c).2.trans (Cert.PagedAttn.result_eq m c ?_ hp), (h.1 c).1⟩)
      (Cert.PagedAttn.run_main (F := Ideal) m g),
    (θ_run (Cert.ReferenceIdeal.defs (F := Ideal)) _ _).mono (fun _ h => ⟨(h 0).1.trans (Cert.PagedRef.res_eq m' 0), (h 0).2⟩)
      (Cert.ReferenceIdeal.Value.run (F := Ideal) m' g')⟩
  exact {
    q := fun c => (hm c).1
    k := fun c p t h d => (congrFun (hm c).2.1 _).trans (Cert.PagedAttn.block_read _ c p t h d)
    v := fun c p t h d => (congrFun (hm c).2.2.1 _).trans (Cert.PagedAttn.block_read _ c p t h d)
    t := fun c => (hm c).2.2.2.1
    n := fun c => (hm c).2.2.2.2 }

theorem claim : Cert.Claim := ⟨Cert.Kernel.Gen.facts, Cert.KernelIdeal.Gen.facts, Cert.ReferenceIdeal.Gen.facts,
  Cert.Pre_served_KernelIdeal.Gen.facts, Cert.Pre_served_ReferenceIdeal.Gen.facts,
  frame_kernel, frame_ideal, fun m g _ => frame_ideal m g trivial, frame_reference, fun m g _ => frame_reference m g trivial, trivial,
  @algebraic Cert.Pre_served_KernelIdeal.Gen.facts⟩

end Cert.Proof

end
